-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 2]⟩ ⟨2, ![8192, 2]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![8192, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x32 : Shape := ⟨2, ![512, 32]⟩
abbrev S1024x2 : Shape := ⟨2, ![1024, 2]⟩
abbrev S4x512x1024 : Shape := ⟨3, ![4, 512, 1024]⟩
abbrev S_ : Shape := ⟨0, ![]⟩

class Facts : Prop where
  bitsLt_bf16_f32 : FTy.bits .bf16 < FTy.bits .f32
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S1024x2 : S_.BroadcastsInDim S1024x2 (![] : Fin 0 → Fin S1024x2.rank)
  reducesTo_S1024x2_S_d0_1 : S1024x2.ReducesTo [0, 1] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S1024x512 .bf16) (main_arg1 : FVec F S512x32 .bf16) (main_arg2 : IVec S1024x2 32) (main_arg3 : FVec F S4x512x1024 .bf16) : IVec S_ 1 :=
  let main_v0 : FVec F S1024x512 .f32 := (extf .f32 · bitsLt_bf16_f32) main_arg0
  let main_v1 : FVec F S1024x512 .f32 := Host.absf main_v0
  let main_cst : FVec F S_ .f32 := constant S_ .f32 0x7F800000#32
  let main_v2 : FVec F S1024x512 .f32 := broadcastInDim S1024x512 ![] bcast_S_S1024x512 main_cst
  let main_v3 : IVec S1024x512 1 := cmpf .olt main_v1 main_v2
  let main_c : IVec S_ 1 := constantI S_ 1 1#1
  let main_v4 : IVec S_ 1 := (fun x v => Host.reduce IntOp.andi x v reducesTo_S1024x512_S_d0_1 h_S_) main_v3 main_c
  let main_v5 : FVec F S512x32 .f32 := (extf .f32 · bitsLt_bf16_f32) main_arg1
  let main_v6 : FVec F S512x32 .f32 := Host.absf main_v5
  let main_cst_0 : FVec F S_ .f32 := constant S_ .f32 0x7F800000#32
  let main_v7 : FVec F S512x32 .f32 := broadcastInDim S512x32 ![] bcast_S_S512x32 main_cst_0
  let main_v8 : IVec S512x32 1 := cmpf .olt main_v6 main_v7
  let main_c_1 : IVec S_ 1 := constantI S_ 1 1#1
  let main_v9 : IVec S_ 1 := (fun x v => Host.reduce IntOp.andi x v reducesTo_S512x32_S_d0_1 h_S_) main_v8 main_c_1
  let main_v10 : IVec S_ 1 := andi main_v4 main_v9
  let main_c_2 : IVec S_ 32 := constantI S_ 32 0#32
  let main_v11 : IVec S1024x2 32 := broadcastInDim S1024x2 ![] bcast_S_S1024x2 main_c_2
  let main_v12 : IVec S1024x2 1 := cmpi .sge main_arg2 main_v11
  let main_c_3 : IVec S_ 32 := constantI S_ 32 32#32
  let main_v13 : IVec S1024x2 32 := broadcastInDim S1024x2 ![] bcast_S_S1024x2 main_c_3
  let main_v14 : IVec S1024x2 1 := cmpi .slt main_arg2 main_v13
  let main_v15 : IVec S1024x2 1 := andi main_v12 main_v14
  let main_c_4 : IVec S_ 1 := constantI S_ 1 1#1
  let main_v16 : IVec S_ 1 := (fun x v => Host.reduce IntOp.andi x v reducesTo_S1024x2_S_d0_1 h_S_) main_v15 main_c_4
  fn_part1 (F := F) main_v10 main_v16
-- ==== Pre_routed_ReferenceIdeal.lean ====
abbrev S8192x512 : Shape := ⟨2, ![8192, 512]⟩
abbrev S512x32 : Shape := ⟨2, ![512, 32]⟩
abbrev S8192x2 : Shape := ⟨2, ![8192, 2]⟩
abbrev S32x512x1024 : Shape := ⟨3, ![32, 512, 1024]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S8192x2 : S_.BroadcastsInDim S8192x2 (![] : Fin 0 → Fin S8192x2.rank)
  reducesTo_S8192x2_S_d0_1 : S8192x2.ReducesTo [0, 1] S_

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S8192x512 .bf16) (main_arg1 : FVec F S512x32 .bf16) (main_arg2 : IVec S8192x2 32) (main_arg3 : FVec F S32x512x1024 .bf16) : IVec S_ 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S512x32 .f32 := (extf .f32 · bitsLt_bf16_f32) main_arg1
  let main_v6 : FVec F S512x32 .f32 := Host.absf main_v5
  let main_cst_0 : FVec F S_ .f32 := constant S_ .f32 0x7F800000#32
  let main_v7 : FVec F S512x32 .f32 := broadcastInDim S512x32 ![] bcast_S_S512x32 main_cst_0
  let main_v8 : IVec S512x32 1 := cmpf .olt main_v6 main_v7
  let main_c_1 : IVec S_ 1 := constantI S_ 1 1#1
  let main_v9 : IVec S_ 1 := (fun x v => Host.reduce IntOp.andi x v reducesTo_S512x32_S_d0_1 h_S_) main_v8 main_c_1
  let main_v10 : IVec S_ 1 := andi main_v4 main_v9
  let main_c_2 : IVec S_ 32 := constantI S_ 32 0#32
  let main_v11 : IVec S8192x2 32 := broadcastInDim S8192x2 ![] bcast_S_S8192x2 main_c_2
  let main_v12 : IVec S8192x2 1 := cmpi .sge main_arg2 main_v11
  let main_c_3 : IVec S_ 32 := constantI S_ 32 32#32
  let main_v13 : IVec S8192x2 32 := broadcastInDim S8192x2 ![] bcast_S_S8192x2 main_c_3
  let main_v14 : IVec S8192x2 1 := cmpi .slt main_arg2 main_v13
  let main_v15 : IVec S8192x2 1 := andi main_v12 main_v14
  let main_c_4 : IVec S_ 1 := constantI S_ 1 1#1
  let main_v16 : IVec S_ 1 := (fun x v => Host.reduce IntOp.andi x v reducesTo_S8192x2_S_d0_1 h_S_) main_v15 main_c_4
  fn_part1 (F := F) main_v10 main_v16
-- ==== Kernel.lean ====
abbrev S1024x512 : Shape := ⟨2, ![1024, 512]⟩
abbrev S512x32 : Shape := ⟨2, ![512, 32]⟩
abbrev S1024x2 : Shape := ⟨2, ![1024, 2]⟩
abbrev S4x512x1024 : Shape := ⟨3, ![4, 512, 1024]⟩
abbrev S1024x1024 : Shape := ⟨2, ![1024, 1024]⟩
abbrev S8x512x1408 : Shape := ⟨3, ![8, 512, 1408]⟩
abbrev S8x512x1280 : Shape := ⟨3, ![8, 512, 1280]⟩
abbrev S3x7 : Shape := ⟨2, ![3, 7]⟩
abbrev S_ : Shape := ⟨0, ![]⟩
abbrev S1x512x1024 : Shape := ⟨3, ![1, 512, 1024]⟩
abbrev S512x1024 : Shape := ⟨2, ![512, 1024]⟩
abbrev S1x512x384 : Shape := ⟨3, ![1, 512, 384]⟩
abbrev S512x384 : Shape := ⟨2, ![512, 384]⟩
abbrev S1x1 : Shape := ⟨2, ![1, 1]⟩
abbrev S1x512x1408 : Shape := ⟨3, ![1, 512, 1408]⟩
abbrev S512x1408 : Shape := ⟨2, ![512, 1408]⟩
abbrev S1x512x640 : Shape := ⟨3, ![1, 512, 640]⟩
abbrev S512x640 : Shape := ⟨2, ![512, 640]⟩
abbrev S1x512x768 : Shape := ⟨3, ![1, 512, 768]⟩
abbrev S512x768 : Shape := ⟨2, ![512, 768]⟩
abbrev S1x512x256 : Shape := ⟨3, ![1, 512, 256]⟩
abbrev S512x256 : Shape := ⟨2, ![512, 256]⟩
abbrev S1x512x1280 : Shape := ⟨3, ![1, 512, 1280]⟩
abbrev S512x1280 : Shape := ⟨2, ![512, 1280]⟩
abbrev S1024x32 : Shape := ⟨2, ![1024, 32]⟩
abbrev S1024x1 : Shape := ⟨2, ![1024, 1]⟩
abbrev S1024 : Shape := ⟨1, ![1024]⟩
abbrev S1024x384 : Shape := ⟨2, ![1024, 384]⟩
abbrev S1024x640 : Shape := ⟨2, ![1024, 640]⟩
abbrev S1024x768 : Shape := ⟨2, ![1024, 768]⟩
abbrev S1024x256 : Shape := ⟨2, ![1024, 256]⟩

abbrev nBuf : Space → Nat
  | .hbm => 5
  | .vmem => 8
  | .smem => 0
  | _ => 0

abbrev bufTy : (tb : Table) → Fin (tcTables nBuf tb) → BufTy
  | .hbm, ⟨0, _⟩ => ⟨S1024x512, .bf16⟩
  | .hbm, ⟨1, _⟩ => ⟨S512x32, .bf16⟩
  | .hbm, ⟨2, _⟩ => ⟨S1024x2, .i32⟩
  | .hbm, ⟨3, _⟩ => ⟨S4x512x1024, .bf16⟩
  | .hbm, ⟨4, _⟩ => ⟨S1024x1024, .f32⟩
  | .local _ .vmem, ⟨0, _⟩ => ⟨S1024x512, .bf16⟩
  | .local _ .vmem, ⟨1, _⟩ => ⟨S512x32, .bf16⟩
  | .local _ .vmem, ⟨2, _⟩ => ⟨S1024x2, .i32⟩
  | .local _ .vmem, ⟨3, _⟩ => ⟨S4x512x1024, .bf16⟩
  | .local _ .vmem, ⟨4, _⟩ => ⟨S1024x1024, .f32⟩
  | .local _ .vmem, ⟨5, _⟩ => ⟨S8x512x1408, .bf16⟩
  | .local _ .vmem, ⟨6, _⟩ => ⟨S8x512x1408, .bf16⟩
  | .local _ .vmem, ⟨7, _⟩ => ⟨S8x512x1280, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 2 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v23 : BitVec 32 := Scalar.xori v2 c1_i32_19
  let c1_i32_26 : BitVec 32 := 1#32
  let v24 : BitVec 32 := Scalar.muli v23 c1_i32_26
  let v25 : BitVec 32 := Scalar.addi c0_i32_27 v24
  v25.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_41 : BitVec 32 := 3#32
  let v44 : BitVec 32 := Scalar.xori v2 c3_i32_41
  let c1_i32_48 : BitVec 32 := 1#32
  let v45 : BitVec 32 := Scalar.muli v44 c1_i32_48
  let v46 : BitVec 32 := Scalar.addi c0_i32_49 v45
  v46.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_63 : BitVec 32 := 4#32
  let v65 : BitVec 32 := Scalar.xori v2 c4_i32_63
  let c1_i32_69 : BitVec 32 := 1#32
  let v66 : BitVec 32 := Scalar.muli v65 c1_i32_69
  let v67 : BitVec 32 := Scalar.addi c0_i32_70 v66
  v67.toNat
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_75 : BitVec 32 := 3#32
  let v76 : BitVec 32 := Scalar.xori v2 c3_i32_75
  let c1_i32_82 : BitVec 32 := 1#32
  let v77 : BitVec 32 := Scalar.muli v76 c1_i32_82
  let v78 : BitVec 32 := Scalar.addi c0_i32_83 v77
  v78.toNat
def k0_dev8 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_88 : BitVec 32 := 4#32
  let v87 : BitVec 32 := Scalar.xori v2 c4_i32_88
  let c1_i32_95 : BitVec 32 := 1#32
  let v88 : BitVec 32 := Scalar.muli v87 c1_i32_95
  let v89 : BitVec 32 := Scalar.addi c0_i32_96 v88
  v89.toNat
def k0_dev9 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_101 : BitVec 32 := 4#32
  let v98 : BitVec 32 := Scalar.xori v2 c4_i32_101
  let c1_i32_108 : BitVec 32 := 1#32
  let v99 : BitVec 32 := Scalar.muli v98 c1_i32_108
  let v100 : BitVec 32 := Scalar.addi c0_i32_109 v99
  v100.toNat
def k0_dev10 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_114 : BitVec 32 := 1#32
  let v109 : BitVec 32 := Scalar.xori v2 c1_i32_114
  let c1_i32_121 : BitVec 32 := 1#32
  let v110 : BitVec 32 := Scalar.muli v109 c1_i32_121
  let v111 : BitVec 32 := Scalar.addi c0_i32_122 v110
  v111.toNat
def k0_dev11 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_127 : BitVec 32 := 1#32
  let v120 : BitVec 32 := Scalar.xori v2 c1_i32_127
  let c1_i32_134 : BitVec 32 := 1#32
  let v121 : BitVec 32 := Scalar.muli v120 c1_i32_134
  let v122 : BitVec 32 := Scalar.addi c0_i32_135 v121
  v122.toNat
def k0_dev12 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_140 : BitVec 32 := 3#32
  let v131 : BitVec 32 := Scalar.xori v2 c3_i32_140
  let c1_i32_147 : BitVec 32 := 1#32
  let v132 : BitVec 32 := Scalar.muli v131 c1_i32_147
  let v133 : BitVec 32 := Scalar.addi c0_i32_148 v132
  v133.toNat
def k0_dev13 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_279 : BitVec 32 := 3#32
  let v334 : BitVec 32 := Scalar.xori v2 c3_i32_279
  let c1_i32_286 : BitVec 32 := 1#32
  let v335 : BitVec 32 := Scalar.muli v334 c1_i32_286
  let v336 : BitVec 32 := Scalar.addi c0_i32_287 v335
  v336.toNat
def k0_dev14 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_292 : BitVec 32 := 4#32
  let v345 : BitVec 32 := Scalar.xori v2 c4_i32_292
  let c1_i32_298 : BitVec 32 := 1#32
  let v346 : BitVec 32 := Scalar.muli v345 c1_i32_298
  let v347 : BitVec 32 := Scalar.addi c0_i32_299 v346
  v347.toNat
def k0_dev15 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_304 : BitVec 32 := 4#32
  let v356 : BitVec 32 := Scalar.xori v2 c4_i32_304
  let c1_i32_310 : BitVec 32 := 1#32
  let v357 : BitVec 32 := Scalar.muli v356 c1_i32_310
  let v358 : BitVec 32 := Scalar.addi c0_i32_311 v357
  v358.toNat
def k0_dev16 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_316 : BitVec 32 := 1#32
  let v367 : BitVec 32 := Scalar.xori v2 c1_i32_316
  let c1_i32_323 : BitVec 32 := 1#32
  let v368 : BitVec 32 := Scalar.muli v367 c1_i32_323
  let v369 : BitVec 32 := Scalar.addi c0_i32_324 v368
  v369.toNat
def k0_dev17 (d0 : Dev nD) : Nat :=
  let c0_i32_337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_329 : BitVec 32 := 1#32
  let v378 : BitVec 32 := Scalar.xori v2 c1_i32_329
  let c1_i32_336 : BitVec 32 := 1#32
  let v379 : BitVec 32 := Scalar.muli v378 c1_i32_336
  let v380 : BitVec 32 := Scalar.addi c0_i32_337 v379
  v380.toNat
def k0_dev18 (d0 : Dev nD) : Nat :=
  let c0_i32_350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_342 : BitVec 32 := 3#32
  let v389 : BitVec 32 := Scalar.xori v2 c3_i32_342
  let c1_i32_349 : BitVec 32 := 1#32
  let v390 : BitVec 32 := Scalar.muli v389 c1_i32_349
  let v391 : BitVec 32 := Scalar.addi c0_i32_350 v390
  v391.toNat
def k0_dev19 (d0 : Dev nD) : Nat :=
  let c0_i32_509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_501 : BitVec 32 := 4#32
  let v583 : BitVec 32 := Scalar.xori v2 c4_i32_501
  let c1_i32_508 : BitVec 32 := 1#32
  let v584 : BitVec 32 := Scalar.muli v583 c1_i32_508
  let v585 : BitVec 32 := Scalar.addi c0_i32_509 v584
  v585.toNat
def k0_dev20 (d0 : Dev nD) : Nat :=
  let c0_i32_520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_501 : BitVec 32 := 4#32
  let v583 : BitVec 32 := Scalar.xori v2 c4_i32_501
  let c1_i32_519 : BitVec 32 := 1#32
  let v594 : BitVec 32 := Scalar.muli v583 c1_i32_519
  let v595 : BitVec 32 := Scalar.addi c0_i32_520 v594
  v595.toNat
def k0_dev21 (d0 : Dev nD) : Nat :=
  let c0_i32_533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_525 : BitVec 32 := 1#32
  let v604 : BitVec 32 := Scalar.xori v2 c1_i32_525
  let c1_i32_532 : BitVec 32 := 1#32
  let v605 : BitVec 32 := Scalar.muli v604 c1_i32_532
  let v606 : BitVec 32 := Scalar.addi c0_i32_533 v605
  v606.toNat
def k0_dev22 (d0 : Dev nD) : Nat :=
  let c0_i32_545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_525 : BitVec 32 := 1#32
  let v604 : BitVec 32 := Scalar.xori v2 c1_i32_525
  let c1_i32_544 : BitVec 32 := 1#32
  let v615 : BitVec 32 := Scalar.muli v604 c1_i32_544
  let v616 : BitVec 32 := Scalar.addi c0_i32_545 v615
  v616.toNat
def k0_dev23 (d0 : Dev nD) : Nat :=
  let c0_i32_558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_550 : BitVec 32 := 3#32
  let v625 : BitVec 32 := Scalar.xori v2 c3_i32_550
  let c1_i32_557 : BitVec 32 := 1#32
  let v626 : BitVec 32 := Scalar.muli v625 c1_i32_557
  let v627 : BitVec 32 := Scalar.addi c0_i32_558 v626
  v627.toNat
def k0_dev24 (d0 : Dev nD) : Nat :=
  let c0_i32_570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_550 : BitVec 32 := 3#32
  let v625 : BitVec 32 := Scalar.xori v2 c3_i32_550
  let c1_i32_569 : BitVec 32 := 1#32
  let v636 : BitVec 32 := Scalar.muli v625 c1_i32_569
  let v637 : BitVec 32 := Scalar.addi c0_i32_570 v636
  v637.toNat
def k0_dev25 (d0 : Dev nD) : Nat :=
  let c0_i32_1400_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1397_r0 : BitVec 32 := 1#32
  let v1679_r0 : BitVec 32 := Scalar.xori v2 c1_i32_1397_r0
  let c1_i32_1399_r0 : BitVec 32 := 1#32
  let v1680_r0 : BitVec 32 := Scalar.muli v1679_r0 c1_i32_1399_r0
  let v1681_r0 : BitVec 32 := Scalar.addi c0_i32_1400_r0 v1680_r0
  v1681_r0.toNat
def k0_dev26 (d0 : Dev nD) : Nat :=
  let c0_i32_1404_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1401_r0 : BitVec 32 := 3#32
  let v1682_r0 : BitVec 32 := Scalar.xori v2 c3_i32_1401_r0
  let c1_i32_1403_r0 : BitVec 32 := 1#32
  let v1683_r0 : BitVec 32 := Scalar.muli v1682_r0 c1_i32_1403_r0
  let v1684_r0 : BitVec 32 := Scalar.addi c0_i32_1404_r0 v1683_r0
  v1684_r0.toNat
def k0_dev27 (d0 : Dev nD) : Nat :=
  let c0_i32_1408_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1405_r0 : BitVec 32 := 4#32
  let v1685_r0 : BitVec 32 := Scalar.xori v2 c4_i32_1405_r0
  let c1_i32_1407_r0 : BitVec 32 := 1#32
  let v1686_r0 : BitVec 32 := Scalar.muli v1685_r0 c1_i32_1407_r0
  let v1687_r0 : BitVec 32 := Scalar.addi c0_i32_1408_r0 v1686_r0
  v1687_r0.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x512 : Shape := ⟨2, ![8192, 512]⟩
abbrev S512x32 : Shape := ⟨2, ![512, 32]⟩
abbrev S8192x2 : Shape := ⟨2, ![8192, 2]⟩
abbrev S32x512x1024 : Shape := ⟨3, ![32, 512, 1024]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩
abbrev S8192x512x1024 : Shape := ⟨3, ![8192, 512, 1024]⟩
abbrev S8192x1024 : Shape := ⟨2, ![8192, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x32, .bf16⟩
  | .hbm, ⟨2, _⟩ => ⟨S8192x2, .i32⟩
  | .hbm, ⟨3, _⟩ => ⟨S32x512x1024, .bf16⟩
  | .hbm, ⟨4, _⟩ => ⟨S8192x512, .f32⟩
  | .hbm, ⟨5, _⟩ => ⟨S512x32, .f32⟩
  | .hbm, ⟨6, _⟩ => ⟨S8192x32, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x32, .f32⟩
  | .hbm, ⟨11, _⟩ => ⟨S8192x32, .f32⟩
  | .hbm, ⟨12, _⟩ => ⟨S8192x32, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x32, .f32⟩
  | .hbm, ⟨17, _⟩ => ⟨S8192x32, .f32⟩
  | .hbm, ⟨18, _⟩ => ⟨S8192x1, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S_, .i32⟩
  | .hbm, ⟨23, _⟩ => ⟨S8192x1, .i32⟩
  | .hbm, ⟨24, _⟩ => ⟨S8192x1, .i32⟩
  | .hbm, ⟨25, _⟩ => ⟨S8192x1, .i32⟩
  | .hbm, ⟨26, _⟩ => ⟨S8192x1x1, .i32⟩
  | .hbm, ⟨27, _⟩ => ⟨S1, .i32⟩
  | .hbm, ⟨28, _⟩ => ⟨S_, .i32⟩
  | .hbm, ⟨29, _⟩ => ⟨S8192x1x1, .i32⟩
  | .hbm, ⟨30, _⟩ => ⟨S8192x1x1, .i1⟩
  | .hbm, ⟨31, _⟩ => ⟨S1x1x1, .i32⟩
  | .hbm, ⟨32, _⟩ => ⟨S8192x1x1, .i32⟩
  | .hbm, ⟨33, _⟩ => ⟨S8192x1x1, .i1⟩
  | .hbm, ⟨34, _⟩ => ⟨S8192x1x1, .i1⟩
  | .hbm, ⟨35, _⟩ => ⟨S_, .i1⟩
  | .hbm, ⟨36, _⟩ => ⟨S8192x1, .i1⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .i32⟩
  | .hbm, ⟨42, _⟩ => ⟨S_, .i32⟩
  | .hbm, ⟨43, _⟩ => ⟨S8192x1, .i32⟩
  | .hbm, ⟨44, _⟩ => ⟨S8192x1, .i1⟩
  | .hbm, ⟨45, _⟩ => ⟨S_, .i32⟩
  | .hbm, ⟨46, _⟩ => ⟨S8192x1, .i32⟩
  | .hbm, ⟨47, _⟩ => ⟨S8192x1, .i32⟩
  | .hbm, ⟨48, _⟩ => ⟨S8192x1, .i32⟩
  | .hbm, ⟨49, _⟩ => ⟨S8192x1x1, .i32⟩
  | .hbm, ⟨50, _⟩ => ⟨S1, .i32⟩
  | .hbm, ⟨51, _⟩ => ⟨S_, .i32⟩
  | .hbm, ⟨52, _⟩ => ⟨S8192x1x1, .i32⟩
  | .hbm, ⟨53, _⟩ => ⟨S8192x1x1, .i1⟩
  | .hbm, ⟨54, _⟩ => ⟨S1x1x1, .i32⟩
  | .hbm, ⟨55, _⟩ => ⟨S8192x1x1, .i32⟩
  | .hbm, ⟨56, _⟩ => ⟨S8192x1x1, .i1⟩
  | .hbm, ⟨57, _⟩ => ⟨S8192x1x1, .i1⟩
  | .hbm, ⟨58, _⟩ => ⟨S_, .i1⟩
  | .hbm, ⟨59, _⟩ => ⟨S8192x1, .i1⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S32x512x1024, .f32⟩
  | .hbm, ⟨66, _⟩ => ⟨S8192x1, .i32⟩
  | .hbm, ⟨67, _⟩ => ⟨S8192, .i32⟩
  | .hbm, ⟨68, _⟩ => ⟨S_, .i32⟩
  | .hbm, ⟨69, _⟩ => ⟨S8192, .i32⟩
  | .hbm, ⟨70, _⟩ => ⟨S8192, .i1⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S8192, .i32⟩
  | .hbm, ⟨75, _⟩ => ⟨S8192x1, .i32⟩
  | .hbm, ⟨76, _⟩ => ⟨S8192x512x1024, .f32⟩
  | .hbm, ⟨77, _⟩ => ⟨S8192x1024, .f32⟩
  | .hbm, ⟨78, _⟩ => ⟨S8192x1, .i32⟩
  | .hbm, ⟨79, _⟩ => ⟨S8192, .i32⟩
  | .hbm, ⟨80, _⟩ => ⟨S_, .i32⟩
  | .hbm, ⟨81, _⟩ => ⟨S8192, .i32⟩
  | .hbm, ⟨82, _⟩ => ⟨S8192, .i1⟩
  | .hbm, ⟨83, _⟩ => ⟨S_, .i32⟩
  | .hbm, ⟨84, _⟩ => ⟨S8192, .i32⟩
  | .hbm, ⟨85, _⟩ => ⟨S8192, .i32⟩
  | .hbm, ⟨86, _⟩ => ⟨S8192, .i32⟩
  | .hbm, ⟨87, _⟩ => ⟨S8192x1, .i32⟩
  | .hbm, ⟨88, _⟩ => ⟨S8192x512x1024, .f32⟩
  | .hbm, ⟨89, _⟩ => ⟨S8192x1024, .f32⟩
  | .hbm, ⟨90, _⟩ => ⟨S8192x1, .f32⟩
  | .hbm, ⟨91, _⟩ => ⟨S8192x1024, .f32⟩
  | .hbm, ⟨92, _⟩ => ⟨S8192x1024, .f32⟩
  | .hbm, ⟨93, _⟩ => ⟨S8192x1, .f32⟩
  | .hbm, ⟨94, _⟩ => ⟨S8192x1024, .f32⟩
  | .hbm, ⟨95, _⟩ => ⟨S8192x1024, .f32⟩
  | .hbm, ⟨96, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v13 : Ref sig .tc := ⟨.hbm, 40, rfl⟩
abbrev main_v14 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_cst : Ref sig .tc := ⟨.hbm, 61, rfl⟩
abbrev main_call1_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_c : Ref sig .tc := ⟨.hbm, 68, rfl⟩
abbrev main_v20 : Ref sig .tc := ⟨.hbm, 69, rfl⟩
abbrev main_v21 : Ref sig .tc := ⟨.hbm, 70, rfl⟩
abbrev main_c_1 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_c_2 : Ref sig .tc := ⟨.hbm, 80, rfl⟩
abbrev main_v30 : Ref sig .tc := ⟨.hbm, 81, rfl⟩
abbrev main_v31 : Ref sig .tc := ⟨.hbm, 82, rfl⟩
abbrev main_c_3 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩

abbrev nD : Nat := 1
abbrev τ : Topo := Topo.v7x

variable {F : FTy → Type} [FloatOps F]
-- ==== Proof.Text.lean ====
/- The kernel's body read as a list of steps.

   The printed body is straight-line code of about 230 memory operations. Here the same operations are written
   as a few tables and one step per kind of operation: issue transfer `f` of array `a`, wait for its arrival, wait
   for its own copy to have left, and add one masked expert product. `body_eq` says the printed body is this text. -/
module

public import proofs.«01_k».proof.Proof.Gen.KernelIdeal.Skeleton
public import proofs.«01_k».proof.Proof.Gen.KernelIdeal.Frame

@[expose] public section

noncomputable section

namespace Cert.Moe

open Idealize.ShloMosaic Idealize.ShloMosaic.TcCoe
open Idealize.SL.Sem
open Cert.KernelIdeal Cert.KernelIdeal.Gen

variable {F : FTy → Type} [FloatOps F]

/-! ## The tables -/

/-- The width of a slot of gather array `a`. -/
def wd : Fin 3 → ℕ := ![1408, 1408, 1280]
/-- The device mask transfer `f` of array `a` crosses. -/
def msk : Fin 3 → Fin 7 → Fin 8 := ![![1, 3, 3, 4, 4, 4, 4], ![3, 4, 4, 1, 1, 1, 1], ![4, 1, 1, 3, 3, 3, 3]]
/-- The slot transfer `f` of array `a` sends. -/
def src : Fin 3 → Fin 7 → Fin 8 := ![![0, 0, 1, 0, 1, 3, 2], ![0, 0, 3, 0, 3, 4, 7], ![0, 0, 4, 0, 4, 1, 5]]
/-- The slot of the partner that transfer `f` of array `a` fills. -/
def dst : Fin 3 → Fin 7 → Fin 8 := ![![1, 3, 2, 4, 5, 7, 6], ![3, 4, 7, 1, 2, 5, 6], ![4, 1, 5, 3, 7, 2, 6]]
/-- The local expert of piece `p` of array `a`. -/
def pe : Fin 3 → Fin 2 → Fin 4 := ![![0, 1], ![1, 2], ![2, 3]]
/-- The first column (of the expert and of the output) of piece `p` of array `a`. -/
def pc : Fin 3 → Fin 2 → ℕ := ![![0, 0], ![384, 0], ![768, 0]]
/-- The width of piece `p` of array `a`. -/
def pw : Fin 3 → Fin 2 → ℕ := ![![1024, 384], ![640, 768], ![256, 1024]]
/-- The column of the slot where piece `p` of array `a` begins. -/
def po : Fin 3 → Fin 2 → ℕ := ![![0, 1024], ![0, 640], ![0, 256]]

/-! ## Shapes and views -/

/-- Gather array `a`: eight slots of `512 × wd a`. -/
abbrev SG (a : Fin 3) : Shape := ⟨3, ![8, 512, wd a]⟩
/-- One slot, with and without its leading axis. -/
abbrev SS (a : Fin 3) : Shape := ⟨3, ![1, 512, wd a]⟩
abbrev SL (a : Fin 3) : Shape := ⟨2, ![512, wd a]⟩
/-- A `w`-column piece of a slot, and of the output. -/
abbrev S3 (w : ℕ) : Shape := ⟨3, ![1, 512, w]⟩
abbrev S2 (w : ℕ) : Shape := ⟨2, ![512, w]⟩
abbrev SO (w : ℕ) : Shape := ⟨2, ![1024, w]⟩

/-- The gather arrays. -/
def scr : (a : Fin 3) → Memref sig .tc .vmem (SG a) .bf16
  | 0 => Memref.whole cc0_scratch0
  | 1 => Memref.whole cc0_scratch1
  | 2 => Memref.whole cc0_scratch2

theorem scr_whole : ∀ a, (scr a).IsWhole
  | 0 => Memref.isWhole_whole _
  | 1 => Memref.isWhole_whole _
  | 2 => Memref.isWhole_whole _

theorem inb_slot (a : Fin 3) (g : Fin 8) : ∀ i, (![g.val, 0, 0] : Fin 3 → ℕ) i + (SS a).size i ≤ (SG a).size i := by
  revert a g; decide
theorem inb_piece (a : Fin 3) (g : Fin 8) (p : Fin 2) :
    ∀ i, (![g.val, 0, po a p] : Fin 3 → ℕ) i + (S3 (pw a p)).size i ≤ (SG a).size i := by
  revert a g p; decide
theorem inb_out (a : Fin 3) (p : Fin 2) : ∀ i, (![0, pc a p] : Fin 2 → ℕ) i + (SO (pw a p)).size i ≤ S1024x1024.size i := by
  revert a p; decide
theorem inb_w (a : Fin 3) (p : Fin 2) :
    ∀ i, (![(pe a p).val, 0, pc a p] : Fin 3 → ℕ) i + (S3 (pw a p)).size i ≤ S4x512x1024.size i := by
  revert a p; decide
theorem inb_sem (a : Fin 3) (f : Fin 7) : ∀ i, (![a.val, f.val] : Fin 2 → ℕ) i + S1x1.size i ≤ S3x7.size i := by
  revert a f; decide
theorem sq (a : Fin 3) : (SS a).Squeezes (SL a) := by revert a; decide
theorem h3 (a : Fin 3) (p : Fin 2) : 0 < (S3 (pw a p)).numel := by revert a p; decide
theorem hO (a : Fin 3) (p : Fin 2) : 0 < (SO (pw a p)).numel := by revert a p; decide
theorem c32 (a : Fin 3) (p : Fin 2) : (S3 (pw a p)).ShapeCasts (S2 (pw a p)) := by revert a p; decide
theorem c23 (a : Fin 3) (p : Fin 2) : (S2 (pw a p)).ShapeCasts (S3 (pw a p)) := by revert a p; decide
theorem cO (a : Fin 3) (p : Fin 2) : (SO (pw a p)).ShapeCasts (SO (pw a p)) := by revert a p; decide
theorem words_slot (a : Fin 3) (g : Fin 8) :
    (Rect.unit (s := SG a) ![g.val, 0, 0] (SS a).size (inb_slot a g)).WholeWords (EltTy.packing .bf16) := by
  revert a g; decide
theorem packed_piece (a : Fin 3) (p : Fin 2) :
    (Rect.unit (s := SG a) ![(0 : Fin 8).val, 0, po a p] (S3 (pw a p)).size (inb_piece a 0 p)).PackedRows (EltTy.packing .bf16) := by
  revert a p; decide

/-- Slot `g` of gather array `a`, as a matrix. -/
def slotM (a : Fin 3) (g : Fin 8) : Memref sig .tc .vmem (SL a) .bf16 :=
  ((scr a).slice (Rect.unit (s := SG a) ![g.val, 0, 0] (SS a).size (inb_slot a g)) (fun _ => rfl)).squeeze (SL a) (sq a)

theorem slot_exact (a : Fin 3) (g : Fin 8) : (slotM a g).view.WordExact :=
  ((scr_whole a).wordExact_slice rfl _ (words_slot a g)).reshape _ _

/-- The semaphore that counts transfer `f` of array `a` leaving, and the one that counts it arriving. -/
def sSem (a : Fin 3) (f : Fin 7) : DmaSem sig :=
  ((cc0_scratch3.slice (Rect.unit (s := S3x7) ![a.val, f.val] S1x1.size (inb_sem a f))).squeeze S_ squeezes_S1x1_S_).sem
def rSem (a : Fin 3) (f : Fin 7) : DmaSem sig :=
  ((cc0_scratch4.slice (Rect.unit (s := S3x7) ![a.val, f.val] S1x1.size (inb_sem a f))).squeeze S_ squeezes_S1x1_S_).sem

/-! ## Devices -/

/-- The device's index on the mesh axis, as the kernel computes it. -/
def myw (d : Dev nD) : BitVec 32 := Scalar.remsi (Scalar.divsi (Dev.word d) 1#32) 8#32

/-- The device across mask `k`, as the kernel computes its number. -/
def peerN (k : Fin 8) (d : Dev nD) : ℕ :=
  (Scalar.addi 0#32 (Scalar.muli (Scalar.xori (myw d) (BitVec.ofNat 32 k.val)) 1#32)).toNat

theorem peerN_lt : ∀ (k : Fin 8) (d : Dev nD), peerN k d < nD := by decide +kernel

/-- The device across mask `k`. -/
def peer (k : Fin 8) (d : Dev nD) : Dev nD := ⟨peerN k d, peerN_lt k d⟩

/-- The number of the expert that is local expert `j` of the device across mask `g`. -/
def egw (d : Dev nD) (g : Fin 8) (j : Fin 4) : BitVec 32 :=
  Scalar.addi (Scalar.muli (Scalar.xori (myw d) (BitVec.ofNat 32 g.val)) 4#32) (BitVec.ofNat 32 j.val)

/-! ## The values -/

section Values
variable (x : Vec F S1024x512 .bf16) (r : Vec F S512x32 .bf16) (i0 i1 : Vec F S1024x1 .i32)

/-- The device's tokens. -/
def xv : FVec F S1024x512 .bf16 := shapeCast S1024x512 x shapeCasts_S1024x512_S1024x512
/-- The router's scores. -/
def scores : FVec F S1024x32 .f32 :=
  matmul dot_S1024x512_S512x32_S1024x32_1_0_0_1_n_n none (xv x) (shapeCast S512x32 r shapeCasts_S512x32_S512x32)
    (constant S1024x32 .f32 0x00000000#32)
/-- The score of the expert an index column picks: the masked sum of the router's scores. -/
def pick (i : Vec F S1024x1 .i32) : FVec F S1024x1 .f32 :=
  shapeCast S1024x1 (multiReduction .add [1] S1024 (select (cmpi .eq (iota .tc S1024x32 32 [1] iota_S1024x32_d1_w32)
      (broadcastTo S1024x32 (shapeCast S1024x1 i shapeCasts_S1024x1_S1024x1 : IVec S1024x1 32) broadcasts_S1024x1_S1024x32)) (scores x r)
      (broadcast S1024x32 (Scalar.ofBits .f32 0x00000000#32 : F .f32)))
    0x00000000#32 reduces_S1024x32_S1024 (.inl rfl) rfl : FVec F S1024 .f32) shapeCasts_S1024_S1024x1
/-- The two experts' unnormalised weights. -/
def ex0 : FVec F S1024x1 .f32 := exp (subf (pick x r i0) (maximumf (pick x r i0) (pick x r i1)))
def ex1 : FVec F S1024x1 .f32 := exp (subf (pick x r i1) (maximumf (pick x r i0) (pick x r i1)))
/-- The two experts' weights. -/
def w0 : FVec F S1024x1 .f32 := divf (ex0 x r i0 i1) (addf (ex0 x r i0 i1) (ex1 x r i0 i1))
def w1 : FVec F S1024x1 .f32 := divf (ex1 x r i0 i1) (addf (ex0 x r i0 i1) (ex1 x r i0 i1))

/-- The weight of the expert numbered `e` at an index column, zero where the column picks another one. -/
def gate (i : Vec F S1024x1 .i32) (w : FVec F S1024x1 .f32) (e : BitVec 32) : FVec F S1024x1 .f32 :=
  select (cmpi .eq (shapeCast S1024x1 i shapeCasts_S1024x1_S1024x1 : IVec S1024x1 32) (broadcast S1024x1 e)) w
    (broadcast S1024x1 (Scalar.ofBits .f32 0x00000000#32 : F .f32))

/-- The tokens scaled by the weight of the expert numbered `e`. -/
def wx (e : BitVec 32) : FVec F S1024x512 .bf16 :=
  truncf .bf16 (mulf (broadcastTo S1024x512 (addf (gate i0 (w0 x r i0 i1) e) (gate i1 (w1 x r i0 i1) e)) broadcasts_S1024x1_S1024x512)
    (extf .f32 (xv x) bitsLt_bf16_f32)) bitsLt_bf16_f32
end Values

/-- What a piece adds to the output columns it covers. -/
def acc (a : Fin 3) (p : Fin 2) (y : FVec F S1024x512 .bf16) (w : Vec F (S3 (pw a p)) .bf16) (o : Vec F (SO (pw a p)) .f32) : FVec F (SO (pw a p)) .f32 :=
  addf (shapeCast (SO (pw a p)) o (cO a p))
    (matmul (DotDims.plain 1024 512 (pw a p)) none y (shapeCast (S2 (pw a p)) w (c32 a p)) (constant (SO (pw a p)) .f32 0x00000000#32))

/-- A piece of an expert as it is packed into slot 0. -/
def packed (a : Fin 3) (p : Fin 2) (w : Vec F (S3 (pw a p)) .bf16) : FVec F (S3 (pw a p)) .bf16 :=
  shapeCast (S3 (pw a p)) (shapeCast (S2 (pw a p)) w (c32 a p) : FVec F (S2 (pw a p)) .bf16) (c23 a p)

/-! ## The steps -/

/-- The program's effects. -/
abbrev Eff (F : FTy → Type) := TpuEff nD τ sig (Elt F) Λ₀ .tc

/-- The rectangle of piece `p` in slot `g` of array `a`; of its columns of the output; of its expert's columns. -/
abbrev rP (a : Fin 3) (g : Fin 8) (p : Fin 2) : Rect (SG a) := Rect.unit (s := SG a) ![g.val, 0, po a p] (S3 (pw a p)).size (inb_piece a g p)
abbrev rO (a : Fin 3) (p : Fin 2) : Rect S1024x1024 := Rect.unit (s := S1024x1024) ![0, pc a p] (SO (pw a p)).size (inb_out a p)
abbrev rW (a : Fin 3) (p : Fin 2) : Rect S4x512x1024 := Rect.unit (s := S4x512x1024) ![(pe a p).val, 0, pc a p] (S3 (pw a p)).size (inb_w a p)

/-- One step of the body. -/
inductive Step
  | issue (a : Fin 3) (f : Fin 7)
  | recv (a : Fin 3) (f : Fin 7)
  | sent (a : Fin 3) (f : Fin 7)
  | comp (a : Fin 3) (g : Fin 8) (p : Fin 2)
  deriving DecidableEq

/-- What a step does, on device `d` with scaled tokens `Y`. -/
def Step.run (d : Dev nD) (Y : Fin 8 → Fin 4 → FVec F S1024x512 .bf16) : Step → Prog (Eff F) PUnit
  | .issue a f => Prog.lift (.enqueueDma (slotM a (src a f)) (.remote (Dev.tc (peer (msk a f) d)) (slotM a (dst a f)) (.dma (sSem a f)))
      (.dma (rSem a f)) (slot_exact a _) (slot_exact a _) ⟨⟨rfl, Or.inl rfl⟩, trivial⟩)
  | .recv a f => Prog.lift (.waitDma2 (rSem a f) (slotM a (src a f)) (slotM a (dst a f)) (slot_exact a _) (slot_exact a _))
  | .sent a f => Prog.lift (.waitDma2 (sSem a f) (slotM a (dst a f)) (slotM a (src a f)) (slot_exact a _) (slot_exact a _))
  | .comp a g p => do
    let w : Vec F (S3 (pw a p)) .bf16 ← Prog.lift (.load (scr a) (rP a g p).toLoadRect (View.loadsAt_vmem (h3 a p)))
    let o : Vec F (SO (pw a p)) .f32 ← Prog.lift (.load (Memref.whole cc0_stg4_0) (rO a p).toLoadRect (View.loadsAt_vmem (hO a p)))
    let _ : Vec F (SO (pw a p)) .f32 ← Prog.lift (.load (Memref.whole cc0_stg4_0) (rO a p).toLoadRect (View.loadsAt_vmem (hO a p)))
    Prog.lift (.store (Memref.whole cc0_stg4_0) (rO a p) (acc a p (Y g (pe a p)) w o) Finset.univ (View.stores_vmem_bits_univ (hO a p) rfl) (.inl rfl))

/-- The steps in turn, then `k`. -/
def runs (d : Dev nD) (Y : Fin 8 → Fin 4 → FVec F S1024x512 .bf16) : List Step → Prog (Eff F) PUnit → Prog (Eff F) PUnit
  | [], k => k
  | s :: l, k => s.run d Y >>= fun _ => runs d Y l k

/-- Pack piece `p` of the device's own experts into slot 0 of array `a`. -/
def packStep (a : Fin 3) (p : Fin 2) : Prog (Eff F) PUnit := do
  let w : Vec F (S3 (pw a p)) .bf16 ← Prog.lift (.load (Memref.whole cc0_stg3_0) (rW a p).toLoadRect (View.loadsAt_vmem (h3 a p)))
  let _ : Vec F (S3 (pw a p)) .bf16 ← Prog.lift (.load (scr a) (rP a 0 p).toLoadRect (View.loadsAt_vmem (h3 a p)))
  Prog.lift (.store (scr a) (rP a 0 p) (packed a p w) Finset.univ
    (View.stores_vmem (h3 a p) ((scr_whole a).storeExact_slice rfl _ (packed_piece a p)) (fun _ => rfl)) (.inl rfl))

/-- A meeting: signal the three partners on semaphore `s`, wait for three signals, then `k`. -/
def meet (s : Sem sig) (d : Dev nD) (k : Prog (Eff F) PUnit) : Prog (Eff F) PUnit := do
  semSignalWord (peer 1 d) s 1#32
  semSignalWord (peer 3 d) s 1#32
  semSignalWord (peer 4 d) s 1#32
  semWaitWord s 3#32
  k

/-- The two pieces of slot `g` of array `a`. -/
def slotSteps (a : Fin 3) (g : Fin 8) : List Step := [.comp a g 0, .comp a g 1]

/-- The transfers issued before the first product. -/
def first : List Step := [.issue 0 1, .issue 0 3, .issue 1 1, .issue 1 3, .issue 2 1, .issue 2 3]
/-- Everything from the first product to the last copy having left. -/
def rest : List Step :=
  slotSteps 0 0 ++ slotSteps 1 0 ++ slotSteps 2 0
  ++ [.recv 0 0, .recv 1 0, .recv 2 0, .issue 0 2, .issue 0 4, .issue 1 2, .issue 1 4, .issue 2 2, .issue 2 4]
  ++ slotSteps 0 1 ++ slotSteps 1 3 ++ slotSteps 2 4
  ++ [.recv 0 1, .recv 0 2, .recv 1 1, .recv 1 2, .recv 2 1, .recv 2 2, .issue 0 5, .issue 0 6, .issue 1 5, .issue 1 6, .issue 2 5, .issue 2 6]
  ++ slotSteps 0 3 ++ slotSteps 0 2 ++ slotSteps 1 4 ++ slotSteps 1 7 ++ slotSteps 2 1 ++ slotSteps 2 5
  ++ [.recv 0 3, .recv 1 3, .recv 2 3] ++ slotSteps 0 4 ++ slotSteps 1 1 ++ slotSteps 2 3
  ++ [.recv 0 4, .recv 1 4, .recv 2 4] ++ slotSteps 0 5 ++ slotSteps 1 2 ++ slotSteps 2 7
  ++ [.recv 0 5, .recv 1 5, .recv 2 5] ++ slotSteps 0 7 ++ slotSteps 1 5 ++ slotSteps 2 2
  ++ [.recv 0 6, .recv 1 6, .recv 2 6] ++ slotSteps 0 6 ++ slotSteps 1 6 ++ slotSteps 2 6
  ++ [.sent 0 0, .sent 0 1, .sent 0 2, .sent 0 3, .sent 0 4, .sent 0 5, .sent 0 6,
      .sent 1 0, .sent 1 1, .sent 1 2, .sent 1 3, .sent 1 4, .sent 1 5, .sent 1 6,
      .sent 2 0, .sent 2 1, .sent 2 2, .sent 2 3, .sent 2 4, .sent 2 5, .sent 2 6]

/-- The body. -/
def text : Prog (Eff F) PUnit := do
  let d : Dev nD ← Prog.lift .deviceId
  meet (sig.barrier 0 rfl) d do
    packStep 0 0
    packStep 0 1
    Step.run d (fun _ _ => broadcast _ (Scalar.ofBits .bf16 0#16)) (.issue 0 0)
    packStep 1 0
    packStep 1 1
    Step.run d (fun _ _ => broadcast _ (Scalar.ofBits .bf16 0#16)) (.issue 1 0)
    packStep 2 0
    packStep 2 1
    Step.run d (fun _ _ => broadcast _ (Scalar.ofBits .bf16 0#16)) (.issue 2 0)
    runs d (fun _ _ => broadcast _ (Scalar.ofBits .bf16 0#16)) first do
      let x : Vec F S1024x512 .bf16 ← Prog.lift (.load (Memref.whole cc0_stg0_0) (Rect.unit (s := S1024x512) ![0, 0] S1024x512.size inb_S1024x512_S1024x512_0_0).toLoadRect (View.loadsAt_vmem h_S1024x512))
      let r : Vec F S512x32 .bf16 ← Prog.lift (.load (Memref.whole cc0_stg1_0) (Rect.unit (s := S512x32) ![0, 0] S512x32.size inb_S512x32_S512x32_0_0).toLoadRect (View.loadsAt_vmem h_S512x32))
      let i0 : Vec F S1024x1 .i32 ← Prog.lift (.load (Memref.whole cc0_stg2_0) (Rect.unit (s := S1024x2) ![0, 0] S1024x1.size inb_S1024x2_S1024x1_0_0).toLoadRect (View.loadsAt_vmem h_S1024x1))
      let i1 : Vec F S1024x1 .i32 ← Prog.lift (.load (Memref.whole cc0_stg2_0) (Rect.unit (s := S1024x2) ![0, 1] S1024x1.size inb_S1024x2_S1024x1_0_1).toLoadRect (View.loadsAt_vmem h_S1024x1))
      let _ : Vec F S1024x1024 .f32 ← Prog.lift (.load (Memref.whole cc0_stg4_0) (Rect.unit (s := S1024x1024) ![0, 0] S1024x1024.size inb_S1024x1024_S1024x1024_0_0).toLoadRect (View.loadsAt_vmem h_S1024x1024))
      Prog.lift (.store (Memref.whole cc0_stg4_0) (Rect.unit (s := S1024x1024) ![0, 0] S1024x1024.size inb_S1024x1024_S1024x1024_0_0) (k0_pay19 (F := F)) Finset.univ (View.stores_vmem_bits_univ h_S1024x1024 rfl) (.inl rfl))
      runs d (fun g j => wx x r i0 i1 (egw d g j)) rest (meet cc0_scoped0.sem d (pure ⟨⟩))

/-- The printed body, on the buffers the launch passes it. -/
abbrev bodyAt : Prog (Eff F) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scoped0

set_option maxRecDepth 65536 in
/-- The printed body is the text. -/
theorem body_eq : bodyAt (F := F) = text (F := F) := by
  chain_rfl

end Cert.Moe
end
-- ==== Proof.Proto.lean ====
/- The protocol of the kernel: its semaphore cells, who pays them with what, and in which order they are waited for.

   Every device has 44 cells: the opening meeting, the closing meeting, and for each of the 21 transfers one that
   counts it leaving and one that counts it arriving. Each cell has a single round. -/
module

public import proofs.«01_k».proof.Proof.Text
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The duties of a cell are named by the three meeting partners; a transfer's cell has only the first. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Partners -/

theorem peer_peer : ∀ (k : Fin 8) (c : Dev nD), peer k (peer k c) = c := by decide +kernel

/-- Crossing a mask, both ways. -/
def across (k : Fin 8) : Dev nD ≃ Dev nD := ⟨peer k, peer k, peer_peer k, peer_peer k⟩

/-- The masks of the three meeting partners. -/
def mk : Fin 3 → Fin 8 := ![1, 3, 4]

/-- A transfer: the array and its number. -/
abbrev T : Type := Fin 3 × Fin 7

/-- Which meeting partner a transfer crosses to. -/
def tm (t : T) : Fin 3 := if msk t.1 t.2 = 1 then 0 else if msk t.1 t.2 = 3 then 1 else 2
theorem mk_tm : ∀ t : T, mk (tm t) = msk t.1 t.2 := by decide

/-- What lands in a slot is what the partner holds in the slot sent. -/
theorem peer_dst : ∀ (t : T) (c : Dev nD), peer (dst t.1 t.2) (peer (msk t.1 t.2) c) = peer (src t.1 t.2) c := by decide +kernel
theorem peer_zero : ∀ c : Dev nD, peer 0 c = c := by decide +kernel

/-! ## Cells -/

/-- A cell of a device: a meeting (opening, closing), or a transfer's (leaving, arriving). -/
abbrev Key : Type := Bool ⊕ (Bool × T)
abbrev kBar : Key := .inl false
abbrev kFin : Key := .inl true
abbrev kS (t : T) : Key := .inr (false, t)
abbrev kR (t : T) : Key := .inr (true, t)

/-- The semaphore of a cell. -/
def csem : Key → SemLoc sig
  | .inl false => .reg (sig.barrier 0 rfl)
  | .inl true => .reg cc0_scoped0.sem
  | .inr (false, t) => .dma (sSem t.1 t.2)
  | .inr (true, t) => .dma (rSem t.1 t.2)

theorem csem_inj : Function.Injective csem := by
  have h : ∀ k k' : Key, csem k = csem k' → k = k' := by decide +kernel
  exact fun k k' => h k k'

/-- The cell `k` of device `c`. -/
abbrev cell (c : Dev nD) (k : Key) : GSem nD τ sig := ((c : Thread nD τ), csem k)
abbrev cSnd (c : Dev nD) (t : T) : GSem nD τ sig := ((c : Thread nD τ), .dma (sSem t.1 t.2))
abbrev cRcv (c : Dev nD) (t : T) : GSem nD τ sig := ((c : Thread nD τ), .dma (rSem t.1 t.2))
abbrev cBar (c : Dev nD) : GSem nD τ sig := ((c : Thread nD τ), .reg (sig.barrier 0 rfl))
abbrev cFin (c : Dev nD) : GSem nD τ sig := ((c : Thread nD τ), .reg cc0_scoped0.sem)

/-- Which cell a semaphore belongs to. -/
def keyOf : SemLoc sig → Option Key := Function.partialInv csem
theorem keyOf_csem (k : Key) : keyOf (csem k) = some k := Function.partialInv_left csem_inj k

/-- The units of one transfer of array `a`. -/
def NN (a : Fin 3) : ℕ := (slotM a 0).view.dmaCredit
theorem credit_slot (a : Fin 3) (g : Fin 8) : (slotM a g).view.dmaCredit = NN a := rfl
theorem NN_pos (a : Fin 3) : 0 < NN a := View.dmaCredit_pos _ (by revert a; decide)

/-! ## What the gather arrays hold at the end -/

/-- The device's own experts as staged. -/
def wst (c : Dev nD) : (cc0_stg3_0 : Ref sig .tc).ty.Contents (Elt F) :=
  (win0_3.blk (0 : Fin 1)).view.read (Elt F) ((s₀ m ρ).mem ((c : Thread nD τ).loc main_arg3))

/-- Column `n` of row `k` of local expert `e`. -/
def wAt (W : (cc0_stg3_0 : Ref sig .tc).ty.Contents (Elt F)) (e : Fin 4) (k : Fin 512) (n : ℕ) : Elt F .bf16 :=
  W (fun | (0 : Fin 3) => e | (1 : Fin 3) => k | (2 : Fin 3) => (⟨n % 1024, Nat.mod_lt _ (by decide)⟩ : Fin 1024))

/-- Gather array `a` when full: slot `g` has the two pieces of the experts of the device across mask `g`. -/
def gathV (c : Dev nD) (a : Fin 3) : (SG a).Idx → Elt F .bf16 := fun i =>
  if (i 2).val < po a 1 then wAt (wst m ρ (peer (i 0) c)) (pe a 0) (i 1) (pc a 0 + (i 2).val)
  else wAt (wst m ρ (peer (i 0) c)) (pe a 1) (i 1) (pc a 1 + ((i 2).val - po a 1))

/-- The same, as the contents of the array. -/
def gath (c : Dev nD) : (a : Fin 3) → Buf (Elt F) ((scr a).view.loc (c : Thread nD τ))
  | 0 => gathV m ρ c 0
  | 1 => gathV m ρ c 1
  | 2 => gathV m ρ c 2

/-- The elements of slot `g` of array `a`. -/
def slotSet (a : Fin 3) (g : Fin 8) : Finset (scr a).view.ty.Idx := (slotM a g).view.set

/-- A share of slot `g` of array `a` at contents `f`. -/
def slotPts (c : Dev nD) (a : Fin 3) (g : Fin 8) (q : PosShare TreeShare) (f : Buf (Elt F) ((scr a).view.loc (c : Thread nD τ))) : sProp 𝕄 :=
  (scr a).view.loc (c : Thread nD τ) ↦[slotSet a g]{q} f

instance slotPts_storable (c : Dev nD) (a : Fin 3) (g : Fin 8) (q) (f) : BI.Storable (upEmb : UEmb _ 𝕄) (slotPts (F := F) c a g q f) := by
  unfold slotPts; infer_instance

/-- The four shares of a full slot. -/
def qs : Fin 4 → PosShare TreeShare :=
  ![fullShare.left, fullShare.right.left, fullShare.right.right.left, fullShare.right.right.right]

/-- The share of its source slot that a transfer holds. -/
def shx : Fin 7 → Fin 4 := ![0, 1, 0, 2, 1, 0, 0]

/-! ## The schedule -/

/-- The duties of a cell. -/
def dutiesK : Key → Finset (Fin 3)
  | .inl _ => Finset.univ
  | .inr _ => {0}
/-- The units of each of its duties. -/
def amountK : Key → ℕ
  | .inl _ => 1
  | .inr (_, t) => NN t.1
theorem amountK_pos : ∀ k, 0 < amountK k
  | .inl _ => Nat.one_pos
  | .inr (_, t) => NN_pos t.1

/-- Slot `dst` of device `c`, at any contents: where transfer `t` into it lands. -/
def landing (c : Dev nD) (t : T) : sProp 𝕄 := iprop(∃ f, slotPts c t.1 (dst t.1 t.2) fullShare f)
instance landing_storable (c : Dev nD) (t : T) : BI.Storable (upEmb : UEmb _ 𝕄) (landing (F := F) c t) := by
  unfold landing; infer_instance

/-- The transfers that cross to partner `d`. -/
def toP (d : Fin 3) : Finset T := Finset.univ.filter fun t => tm t = d

/-- What duty `d` of a cell of device `c` hands it: at the opening meeting partner `d`'s slots where `c`'s transfers land;
    at the closing meeting nothing; at a leaving transfer the share it read from; at an arriving one the slot filled. -/
def payK (c : Dev nD) : Key → Fin 3 → sProp 𝕄
  | .inl false, d => bigSep (toP d) fun t => landing (peer (mk d) c) t
  | .inl true, _ => iprop(emp)
  | .inr (false, t), _ => slotPts c t.1 (src t.1 t.2) (qs (shx t.2)) (gath m ρ c t.1)
  | .inr (true, t), _ => slotPts c t.1 (dst t.1 t.2) fullShare (gath m ρ c t.1)

instance payK_storable (c : Dev nD) : (k : Key) → (d : Fin 3) → BI.Storable (upEmb : UEmb _ 𝕄) (payK (F := F) m ρ c k d)
  | .inl false, d => by unfold payK; infer_instance
  | .inl true, _ => by unfold payK; infer_instance
  | .inr (false, t), _ => by unfold payK; infer_instance
  | .inr (true, t), _ => by unfold payK; infer_instance

/-- The schedule: one round, at the cells above. -/
def Rd : Rounds.Schedule (GSem nD τ sig) (Fin 3) 𝕄 where
  duties g r := if r = 0 ∧ g.1.2 = .tc then (keyOf g.2).elim ∅ dutiesK else ∅
  unitless _ := False
  amount g _ _ := (keyOf g.2).elim 1 amountK
  payload g _ d := (keyOf g.2).elim iprop(emp) fun k => payK m ρ g.1.1 k d
  amount_pos g _ _ _ := by
    show 0 < (keyOf g.2).elim 1 amountK
    cases keyOf g.2 with
    | none => exact Nat.one_pos
    | some k => exact amountK_pos k

instance Rd_payload_storable (g : GSem nD τ sig) (r : ℕ) (d : Fin 3) : BI.Storable (upEmb : UEmb _ 𝕄) ((Rd (F := F) m ρ).payload g r d) := by
  show BI.Storable upEmb ((keyOf g.2).elim iprop(emp) fun k => payK m ρ g.1.1 k d)
  cases keyOf g.2 with
  | none => show BI.Storable upEmb (iprop(emp) : sProp 𝕄); infer_instance
  | some k => show BI.Storable upEmb (payK m ρ g.1.1 k d); infer_instance

section Sched
variable (c : Dev nD) (k : Key) (d : Fin 3)

omit [FloatOps F] in
theorem Rd_duties : (Rd (F := F) m ρ).duties (cell c k) 0 = dutiesK k := by
  dsimp only [Rd]; rw [if_pos ⟨rfl, rfl⟩, keyOf_csem]; rfl
omit [FloatOps F] in
theorem Rd_later (g : GSem nD τ sig) : ∀ r, 1 ≤ r → (Rd (F := F) m ρ).duties g r = ∅ :=
  fun r hr => by dsimp only [Rd]; exact if_neg fun h => by omega
omit [FloatOps F] in
theorem Rd_amount (r : ℕ) : (Rd (F := F) m ρ).amount (cell c k) r d = amountK k := by dsimp only [Rd]; rw [keyOf_csem]; rfl
omit [FloatOps F] in
theorem Rd_payload (r : ℕ) : (Rd (F := F) m ρ).payload (cell c k) r d = payK m ρ c k d := by dsimp only [Rd]; rw [keyOf_csem]; rfl

/-- The units a cell's round counts to. -/
def total : Key → ℕ
  | .inl _ => 3
  | .inr (_, t) => NN t.1
omit [FloatOps F] in
theorem Rd_expect : (Rd (F := F) m ρ).expect (cell c k) 0 = total k := by
  unfold Schedule.expect Schedule.amountOf
  rw [Rd_duties, Finset.sum_congr rfl fun d _ => Rd_amount m ρ c k d 0, Finset.sum_const]
  rcases k with b | ⟨b, t⟩
  · rfl
  · show 1 • NN t.1 = NN t.1
    exact one_smul _ _
omit [FloatOps F] in
/-- What a wait for the whole round hands the device. -/
theorem Rd_rest : bigSep ((Rd (F := F) m ρ).duties (cell c k) 0 \ ∅) (fun d => (Rd (F := F) m ρ).payload (cell c k) 0 d)
    = bigSep (dutiesK k) fun d => payK m ρ c k d := by
  rw [Finset.sdiff_empty, Rd_duties]
  exact congrArg _ (funext fun d => Rd_payload m ρ c k d 0)

end Sched

/-! ## Debts and levels -/

/-- The signals of a meeting. -/
def owesMeet (b : Bool) (c : Dev nD) : CellTallies nD τ sig Unit := ∑ d : Fin 3, tallyAt (cell (peer (mk d) c) (.inl b)) () 1
/-- The arrivals that the transfers `S` still to be issued owe. -/
def owesT (S : Finset T) (c : Dev nD) : CellTallies nD τ sig Unit := ∑ t ∈ S, tallyAt (cell (peer (msk t.1 t.2) c) (kR t)) () (NN t.1)
/-- What the device owes once the opening meeting is over and `S` is still to be issued. -/
def owesB (S : Finset T) (c : Dev nD) : CellTallies nD τ sig Unit := owesT S c + owesMeet true c
/-- What the device owes at launch. -/
def O₀ (c : Dev nD) : CellTallies nD τ sig Unit := owesB Finset.univ c + owesMeet false c

def L (g : GSem nD τ sig) : Finset Unit := if g.1.2 = .tc then {()} else ∅
/-- The level of a cell: the opening meeting, then the transfers by their number, last the closing meeting. -/
def lvK : Key → ℕ
  | .inl false => 1
  | .inl true => 20
  | .inr (false, _) => 0
  | .inr (true, t) => 2 + t.2.val
def lv (g : GSem nD τ sig) (_ : Unit) : ℕ := (keyOf g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Key) : lv (cell c k) () = lvK k := by unfold lv; rw [keyOf_csem]; rfl

/-- The keys a debt is owed at. -/
theorem owesMeet_pos {b : Bool} {c : Dev nD} {g : GSem nD τ sig} {u : Unit} (h : 0 < owesMeet b c g u) :
    ∃ c', g = cell c' (.inl b) := by
  unfold owesMeet at h
  rw [Finset.sum_apply, Finsupp.finsetSum_apply] at h
  obtain ⟨d, -, hd⟩ := Finset.exists_ne_zero_of_sum_ne_zero h.ne'
  rw [tallyAt_apply] at hd
  exact ⟨_, (ite_ne_right_iff.mp hd).1.1⟩
theorem owesT_pos {S : Finset T} {c : Dev nD} {g : GSem nD τ sig} {u : Unit} (h : 0 < owesT S c g u) :
    ∃ c', ∃ t ∈ S, g = cell c' (kR t) := by
  unfold owesT at h
  rw [Finset.sum_apply, Finsupp.finsetSum_apply] at h
  obtain ⟨t, ht, hd⟩ := Finset.exists_ne_zero_of_sum_ne_zero h.ne'
  rw [tallyAt_apply] at hd
  exact ⟨_, t, ht, (ite_ne_right_iff.mp hd).1.1⟩
theorem owesB_pos {S : Finset T} {c : Dev nD} {g : GSem nD τ sig} {u : Unit} (h : 0 < owesB S c g u) :
    ∃ c' k, g = cell c' k ∧ (k = kFin ∨ ∃ t ∈ S, k = kR t) := by
  unfold owesB at h
  rw [Pi.add_apply, Finsupp.add_apply] at h
  rcases Nat.add_pos_iff_pos_or_pos.mp h with h | h
  · obtain ⟨c', t, ht, hg⟩ := owesT_pos h; exact ⟨c', _, hg, .inr ⟨t, ht, rfl⟩⟩
  · obtain ⟨c', hg⟩ := owesMeet_pos h; exact ⟨c', _, hg, .inl rfl⟩
theorem O₀_pos {c : Dev nD} {g : GSem nD τ sig} {u : Unit} (h : 0 < O₀ c g u) : ∃ c' k, g = cell c' k ∧ 0 < lvK k := by
  unfold O₀ at h
  rw [Pi.add_apply, Finsupp.add_apply] at h
  rcases Nat.add_pos_iff_pos_or_pos.mp h with h | h
  · obtain ⟨c', k, hg, rfl | ⟨t, -, rfl⟩⟩ := owesB_pos h
    · exact ⟨c', _, hg, by decide⟩
    · exact ⟨c', _, hg, by show 0 < 2 + _; omega⟩
  · obtain ⟨c', hg⟩ := owesMeet_pos h; exact ⟨c', _, hg, by decide⟩

omit [FloatOps F] in
/-- A wait at a level below everything still owed is allowed. -/
theorem mayWait_below (c : Dev nD) (sm : SemLoc sig) (O : CellTallies nD τ sig Unit) (n : ℕ) (hn : lv ((c : Thread nD τ), sm) () ≤ n)
    (hO : ∀ g u, 0 < O g u → ∃ c' k, g = cell c' k ∧ n < lvK k) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', k, rfl, -⟩ := hO g u hg; rw [L_tc]; exact Finset.mem_singleton_self _)
    (fun p hp => by rw [Finset.mem_singleton.mp hp]; exact hn)
    (fun g u hg => by obtain ⟨c', k, rfl, hk⟩ := hO g u hg; rw [lv_cell]; exact hk)

omit [FloatOps F] in
/-- With `S` still to be issued, a cell whose level is below the closing meeting's and every arrival's of `S` may be waited for. -/
theorem mayWait_owesB (c : Dev nD) (k : Key) (S : Finset T) (hf : lvK k < 20) (hS : ∀ t ∈ S, lvK k < 2 + t.2.val) :
    (levAts L lv : sProp 𝕄) ⊢ MayWait (c : Thread nD τ) (csem k) () (owesB S c) :=
  mayWait_below c (csem k) _ (lvK k) (lv_cell c k).le fun g u hg => by
    obtain ⟨c', k', hg, rfl | ⟨t, ht, rfl⟩⟩ := owesB_pos hg
    · exact ⟨c', _, hg, hf⟩
    · exact ⟨c', _, hg, hS t ht⟩

omit [FloatOps F] in
/-- A semaphore of no cell of the protocol may be waited for at launch's debts, or at none. -/
theorem mayWait_stage (c : Dev nD) (sm : SemLoc sig) (hs : ∀ k, csem k ≠ sm) (O : CellTallies nD τ sig Unit) (hO : O = O₀ c ∨ O = 0) :
    (levAts L lv : sProp 𝕄) ⊢ MayWait (c : Thread nD τ) sm () O := by
  rcases hO with rfl | rfl
  · refine mayWait_below c sm _ 0 ?_ fun g u hg => O₀_pos hg
    have : keyOf sm = none := by
      unfold keyOf Function.partialInv
      exact dif_neg fun ⟨k, hk⟩ => hs k hk
    show (keyOf sm).elim 0 lvK ≤ 0
    rw [this]; exact le_rfl
  · rw [MayWait_zero]; iintro -; iempintro

theorem owesT_erase {S : Finset T} {t : T} (h : t ∈ S) (c : Dev nD) :
    owesB S c = owesB (S.erase t) c + tallyAt (cell (peer (msk t.1 t.2) c) (kR t)) () (NN t.1) := by
  unfold owesB owesT
  rw [← Finset.sum_erase_add S _ h]; exact add_right_comm _ _ _

end Cert.Moe
end
-- ==== Proof.Slots.lean ====
/- The gather arrays slot by slot: how a whole array splits into its slots and a slot into four shares, what a
   landing and a packing leave in a slot, and what a product reads from it. -/
module

public import proofs.«01_k».proof.Proof.Proto
public import Idealize.ShloMosaic.Lib.Pipeline.Value

@[expose] public section

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## Slots -/

/-- The rectangle of slot `g`. -/
abbrev rS (a : Fin 3) (g : Fin 8) : Rect (SG a) := Rect.unit (s := SG a) ![g.val, 0, 0] (SS a).size (inb_slot a g)

theorem mem_rS {a : Fin 3} {g : Fin 8} {i : (SG a).Idx} : i ∈ (rS a g).set ↔ i 0 = g := by
  rw [Rect.mem_set_unit]
  constructor
  · intro h
    have h0 : g.val ≤ (i 0).val ∧ (i 0).val < g.val + 1 := h 0
    exact Fin.ext (by omega)
  · rintro h a'
    have h1 : (i 1).val < 512 := (i 1).isLt
    have h2 : (i 2).val < wd a := (i 2).isLt
    have h0 : (i 0).val = g.val := congrArg Fin.val h
    fin_cases a'
    · exact ⟨h0.ge, by show (i 0).val < g.val + 1; omega⟩
    · exact ⟨Nat.zero_le _, by show (i 1).val < 0 + 512; omega⟩
    · exact ⟨Nat.zero_le _, by show (i 2).val < 0 + wd a; omega⟩

theorem slot_set (a : Fin 3) (g : Fin 8) : slotSet a g = (rS a g).set.map (scr a).view.emb := by
  show (((scr a).view.slice (rS a g)).reshape (SL a) _).set = _
  rw [View.set_reshape, View.set_slice]

theorem slots_disjoint (a : Fin 3) (g g' : Fin 8) (h : g ≠ g') : Disjoint (slotSet a g) (slotSet a g') := by
  rw [slot_set, slot_set]
  refine (Finset.disjoint_map _).mpr (Finset.disjoint_left.mpr fun i hi hi' => h ?_)
  exact (mem_rS.mp hi).symm.trans (mem_rS.mp hi')

theorem slots_cover (a : Fin 3) : (Finset.univ : Finset (Fin 8)).biUnion (slotSet a) = (scr a).view.set := by
  ext i
  rw [Finset.mem_biUnion]
  constructor
  · rintro ⟨g, -, hi⟩
    rw [slot_set] at hi
    obtain ⟨j, -, rfl⟩ := Finset.mem_map.mp hi
    exact View.emb_mem_set _ j
  · intro hi
    obtain ⟨j, -, rfl⟩ := Finset.mem_map.mp hi
    have hg := slot_set a (j 0 : Fin 8)
    exact ⟨j 0, Finset.mem_univ _, hg ▸ Finset.mem_map_of_mem _ (mem_rS.mpr rfl)⟩

omit [FloatOps F] in
/-- A whole array is its eight slots. -/
theorem whole_slots (c : Dev nD) (a : Fin 3) (f : Buf (Elt F) ((scr a).view.loc (c : Thread nD τ))) :
    ((scr a).view.loc (c : Thread nD τ) ↦{fullShare} f : sProp 𝕄) = bigSep Finset.univ fun g => slotPts c a g fullShare f := by
  have h := pointsTo_biUnion (Ix := Unit) (Name := ℕ) (U := UU) (Lvl := ℕ) (Val := Elt F) (ℓ := (scr a).view.loc (c : Thread nD τ)) (q := fullShare) (f := f)
    (Finset.univ : Finset (Fin 8)) (slotSet a) (fun g _ g' _ hg => slots_disjoint a g g' hg)
  have hu : (Finset.univ : Finset (Fin 8)).biUnion (slotSet a) = Finset.univ := (slots_cover a).trans (scr_whole a).set_eq_univ
  exact (congrArg (fun S => ((scr a).view.loc (c : Thread nD τ) ↦[S]{fullShare} f : sProp 𝕄)) hu.symm).trans h

omit [FloatOps F] in
/-- A slot is its four shares. -/
theorem slot_shares (c : Dev nD) (a : Fin 3) (g : Fin 8) (f : Buf (Elt F) ((scr a).view.loc (c : Thread nD τ))) :
    (slotPts c a g fullShare f : sProp 𝕄) ⊣⊢ bigSep Finset.univ fun i => slotPts c a g (qs i) f := by
  have key : ∀ q : PosShare TreeShare, (slotPts c a g q f : sProp 𝕄) = iprop(slotPts c a g q.left f ∗ slotPts c a g q.right f) := fun q =>
    Entails.antisymm (pointsTo_share (PosShare.mem_left_op_right q)).1 (pointsTo_share (PosShare.mem_left_op_right q)).2
  rw [bigSep_univ_eq_bigSepL [0, 1, 2, 3] (by decide) (by decide), bigSepL_cons_cons, bigSepL_cons_cons, bigSepL_cons_cons, bigSepL_singleton]
  rw [key fullShare, key fullShare.right, key fullShare.right.right]
  exact .rfl

/-! ## Contents -/

omit [FloatOps F] in
/-- Contents that a view reads the same agree on its elements. -/
theorem agree_of_read {sp : Space} {s : Shape} {e : EltTy} (v : View sig .tc sp s e) {f g : v.ty.Contents (Elt F)}
    (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact (cast_bijective _).1 hx

omit [FloatOps F] in
theorem slotPts_congr (c : Dev nD) (a : Fin 3) (g : Fin 8) (q : PosShare TreeShare) {f f' : Buf (Elt F) ((scr a).view.loc (c : Thread nD τ))}
    (h : (slotM a g).view.read (Elt F) f = (slotM a g).view.read (Elt F) f') : (slotPts c a g q f : sProp 𝕄) = slotPts c a g q f' :=
  pointsTo_congr (agree_of_read (slotM a g).view h)

omit [FloatOps F] in
theorem read_gath (c : Dev nD) : ∀ a, (scr a).view.read (Elt F) (gath m ρ c a) = gathV m ρ c a
  | 0 => rfl
  | 1 => rfl
  | 2 => rfl

omit [FloatOps F] in
/-- A slot read through its view, from the array read whole. -/
theorem read_slot (a : Fin 3) (g : Fin 8) (f : (scr a).view.ty.Contents (Elt F)) :
    (slotM a g).view.read (Elt F) f = fun x => (scr a).view.read (Elt F) f ((rS a g).emb (Shape.reshapeEquiv (sq a).numel_eq x)) := rfl

omit [FloatOps F] in
/-- What slot `g` of device `c` holds depends only on whose experts these are. -/
theorem gathV_slot (c c' : Dev nD) (a : Fin 3) (g g' : Fin 8) (h : peer g c = peer g' c') (y : (SS a).Idx) :
    gathV m ρ c a ((rS a g).emb y) = gathV m ρ c' a ((rS a g').emb y) := by
  have hy : (y 0).val = 0 := by have : (y 0).val < 1 := (y 0).isLt; omega
  have e0 : ∀ g : Fin 8, ((rS a g).emb y) 0 = g := fun g => Fin.ext (by
    show g.val + 1 * (y 0).val = g.val; omega)
  have e1 : ((rS a g).emb y) 1 = ((rS a g').emb y) 1 := rfl
  have e2 : ((rS a g).emb y) 2 = ((rS a g').emb y) 2 := rfl
  unfold gathV
  rw [e0, e0, e1, e2, h]

omit [FloatOps F] in
/-- What a transfer leaves in the slot it fills is what the filled array holds there. -/
theorem landed (c : Dev nD) (t : T) (fd : Buf (Elt F) ((scr t.1).view.loc (peer (msk t.1 t.2) c : Thread nD τ))) :
    (slotPts (peer (msk t.1 t.2) c) t.1 (dst t.1 t.2) fullShare
        ((slotM t.1 (dst t.1 t.2)).view.write (Elt F) fd ((slotM t.1 (src t.1 t.2)).view.read (Elt F) (gath m ρ c t.1)) Finset.univ) : sProp 𝕄)
      = slotPts (peer (msk t.1 t.2) c) t.1 (dst t.1 t.2) fullShare (gath m ρ (peer (msk t.1 t.2) c) t.1) := by
  refine slotPts_congr _ _ _ _ ?_
  have h1 := read_gath m ρ c t.1
  have h2 := read_gath m ρ (peer (msk t.1 t.2) c) t.1
  refine (View.read_write_univ (v := (slotM t.1 (dst t.1 t.2)).view) _ _).trans (funext fun x => ?_)
  refine (congrFun h1 _).trans (Eq.trans ?_ (congrFun h2 _).symm)
  exact gathV_slot m ρ _ _ _ _ _ (peer_dst t c).symm _

/-! ## Pieces -/

theorem piece_sub (a : Fin 3) (g : Fin 8) (p : Fin 2) : (scr a).view.setOn (rP a g p).toLoadRect.set ⊆ slotSet a g := by
  rw [slot_set]
  refine Finset.map_subset_map.mpr fun i hi => mem_rS.mpr ?_
  have h0 : g.val ≤ (i 0).val ∧ (i 0).val < g.val + 1 := Rect.mem_set_unit.mp hi 0
  exact Fin.ext (by omega)

theorem pc_lt (a : Fin 3) (p : Fin 2) : pc a p + pw a p ≤ 1024 := by revert a p; decide
theorem po_wd (a : Fin 3) : po a 1 + pw a 1 = wd a := by revert a; decide
theorem po_zero (a : Fin 3) : po a 0 = 0 := by revert a; decide
theorem pw_zero (a : Fin 3) : pw a 0 = po a 1 := by revert a; decide

/-- Piece `p` of the experts `W`: its columns of its local expert. -/
def piece (a : Fin 3) (p : Fin 2) (W : (cc0_stg3_0 : Ref sig .tc).ty.Contents (Elt F)) : Vec F (S3 (pw a p)) .bf16 :=
  fun y => wAt W (pe a p) (y 1) (pc a p + (y 2).val)

omit [FloatOps F] in
theorem read_piece (a : Fin 3) (p : Fin 2) (W : (cc0_stg3_0 : Ref sig .tc).ty.Contents (Elt F)) :
    (Memref.whole cc0_stg3_0 : Memref sig .tc _ _ _).view.readAt (Elt F) (rW a p).toLoadRect W = piece a p W := by
  funext y
  show W ((rW a p).emb y) = wAt W (pe a p) (y 1) (pc a p + (y 2).val)
  unfold wAt
  have hy : (y 0).val = 0 := by have : (y 0).val < 1 := (y 0).isLt; omega
  have h2 : (y 2).val < pw a p := (y 2).isLt
  have hp := pc_lt a p
  refine congrArg W (funext fun i => ?_)
  fin_cases i
  · exact Fin.ext (by show (pe a p).val + 1 * (y 0).val = (pe a p).val; omega)
  · exact Fin.ext (by show 0 + 1 * (y 1).val = (y 1).val; omega)
  · exact Fin.ext (by show pc a p + 1 * (y 2).val = (pc a p + (y 2).val) % 1024; rw [Nat.mod_eq_of_lt (by omega)]; omega)

omit [FloatOps F] in
theorem gathV_piece (c : Dev nD) (a : Fin 3) (g : Fin 8) (p : Fin 2) (y : (S3 (pw a p)).Idx) :
    gathV m ρ c a ((rP a g p).emb y) = piece a p (wst m ρ (peer g c)) y := by
  have hy : (y 0).val = 0 := by have : (y 0).val < 1 := (y 0).isLt; omega
  have h2 : (y 2).val < pw a p := (y 2).isLt
  have e0 : ((rP a g p).emb y) 0 = g := Fin.ext (by show g.val + 1 * (y 0).val = g.val; omega)
  have e1 : ((rP a g p).emb y) 1 = y 1 := Fin.ext (by show 0 + 1 * (y 1).val = (y 1).val; omega)
  have e2 : (((rP a g p).emb y) 2).val = po a p + (y 2).val := by show po a p + 1 * (y 2).val = _; omega
  unfold gathV piece
  rw [e0, e1, e2]
  have hp : p = 0 ∨ p = 1 := by omega
  rcases hp with rfl | rfl
  · rw [if_pos (by rw [po_zero, ← pw_zero]; omega), po_zero, Nat.zero_add]
  · rw [if_neg (by omega), Nat.add_sub_cancel_left]

omit [FloatOps F] in
/-- A product reads its piece of the experts of the device across the slot's mask. -/
theorem read_gath_piece (c : Dev nD) (a : Fin 3) (g : Fin 8) (p : Fin 2) :
    (scr a).view.readAt (Elt F) (rP a g p).toLoadRect (gath m ρ c a) = piece a p (wst m ρ (peer g c)) := by
  funext y
  exact (congrFun (read_gath m ρ c a) _).trans (gathV_piece m ρ c a g p y)

omit [FloatOps F] in
theorem packed_eq (a : Fin 3) (p : Fin 2) (w : Vec F (S3 (pw a p)) .bf16) : packed a p w = w := shapeCast_shapeCast _ _ _

theorem rP_disjoint (a : Fin 3) : ∀ y : (S3 (pw a 0)).Idx, (rP a 0 0).emb y ∉ (Finset.univ : Finset (S3 (pw a 1)).Idx).map (rP a 0 1).emb := by
  intro y hy
  obtain ⟨z, -, hz⟩ := Finset.mem_map.mp hy
  have h := congrArg Fin.val (congrFun hz 2)
  have h2 : (y 2).val < pw a 0 := (y 2).isLt
  have e : po a 1 + 1 * (z 2).val = po a 0 + 1 * (y 2).val := h
  have hw := pw_zero a
  rw [po_zero] at e
  omega

omit [FloatOps F] in
/-- The two packings leave in slot 0 what the filled array holds there. -/
theorem packed_slot (c : Dev nD) (a : Fin 3) (f : Buf (Elt F) ((scr a).view.loc (c : Thread nD τ))) :
    (slotPts c a 0 fullShare (((scr a).access (rP a 0 1) : View sig .tc _ _ _).write (Elt F)
        (((scr a).access (rP a 0 0) : View sig .tc _ _ _).write (Elt F) f (packed a 0 (piece a 0 (wst m ρ c))) Finset.univ)
        (packed a 1 (piece a 1 (wst m ρ c))) Finset.univ) : sProp 𝕄) = slotPts c a 0 fullShare (gath m ρ c a) := by
  refine slotPts_congr _ _ _ _ ?_
  rw [read_slot, read_slot]
  funext x
  refine Eq.trans ?_ (congrFun (read_gath m ρ c a) _).symm
  generalize hi : (rS a 0).emb (Shape.reshapeEquiv (sq a).numel_eq x) = i
  have h0 : i 0 = (0 : Fin 8) := mem_rS.mp (by rw [← hi]; exact Rect.map_emb_univ (rS a 0) ▸ Finset.mem_map_of_mem _ (Finset.mem_univ _))
  rw [packed_eq, packed_eq]
  have h0' : (i 0).val = 0 := congrArg Fin.val h0
  have hw := po_wd a
  have h2 : (i 2).val < wd a := (i 2).isLt
  by_cases hlt : (i 2).val < po a 1
  · have hz : ∃ y, (rP a 0 0).emb y = i := by
      refine ⟨fun | (0 : Fin 3) => (⟨0, Nat.one_pos⟩ : Fin 1) | (1 : Fin 3) => (i 1 : Fin 512) | (2 : Fin 3) => (⟨(i 2).val, by rw [pw_zero]; exact hlt⟩ : Fin (pw a 0)), funext fun k => Fin.ext ?_⟩
      fin_cases k
      · show 0 + 1 * 0 = (i 0).val; omega
      · show 0 + 1 * (i 1).val = (i 1).val; omega
      · show po a 0 + 1 * (i 2).val = (i 2).val; rw [po_zero]; omega
    obtain ⟨y, rfl⟩ := hz
    refine (View.read_slice_write_of_not_mem (v := (scr a).view) (Val := Elt F) (rP a 0 1) _ _ _ (rP_disjoint a y)).trans ?_
    refine (View.read_slice_write_emb (v := (scr a).view) (Val := Elt F) (rP a 0 0) _ _ (Finset.mem_univ y)).trans ?_
    rw [gathV_piece, peer_zero]
  · have hz : ∃ y, (rP a 0 1).emb y = i := by
      refine ⟨fun | (0 : Fin 3) => (⟨0, Nat.one_pos⟩ : Fin 1) | (1 : Fin 3) => (i 1 : Fin 512) | (2 : Fin 3) => (⟨(i 2).val - po a 1, by omega⟩ : Fin (pw a 1)), funext fun k => Fin.ext ?_⟩
      fin_cases k
      · show 0 + 1 * 0 = (i 0).val; omega
      · show 0 + 1 * (i 1).val = (i 1).val; omega
      · show po a 1 + 1 * ((i 2).val - po a 1) = (i 2).val; omega
    obtain ⟨y, rfl⟩ := hz
    refine (View.read_slice_write_emb (v := (scr a).view) (Val := Elt F) (rP a 0 1) _ _ (Finset.mem_univ y)).trans ?_
    rw [gathV_piece, peer_zero]

end Cert.Moe
end
-- ==== Proof.Steps.lean ====
/- One step of the body at a time: what a device holds between two steps, and that each kind of step keeps it. -/
module

public import proofs.«01_k».proof.Proof.Slots

@[expose] public section

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What a device holds -/

/-- Where a device stands: the transfers not yet issued, issued and not yet seen to leave, seen to leave, not yet
    seen to arrive, seen to arrive; and the shares of slots (array, slot, which of its four) it holds filled. -/
structure St where
  todo : Finset T
  fly : Finset T
  left : Finset T
  wait : Finset T
  here : Finset T
  held : Finset (Fin 3 × Fin 8 × Fin 4)

/-- The four shares of a slot. -/
def four (a : Fin 3) (g : Fin 8) : Finset (Fin 3 × Fin 8 × Fin 4) :=
  Finset.univ.map ⟨fun i : Fin 4 => (a, g, i), fun i j h => by simpa using h⟩

/-- The step may be taken: its transfer is at the right point, its shares are held (or not yet held), and nothing
    still to be issued arrives at a lower level than what it waits for. -/
def St.ok (σ : St) : Step → Prop
  | .issue a f => (a, f) ∈ σ.todo ∧ (a, f) ∉ σ.fly ∧ (a, src a f, shx f) ∈ σ.held
  | .recv a f => (a, f) ∈ σ.wait ∧ (a, f) ∉ σ.here ∧ (∀ t ∈ σ.todo, 2 + f.val < 2 + t.2.val) ∧ Disjoint σ.held (four a (dst a f))
  | .sent a f => (a, f) ∈ σ.fly ∧ (a, f) ∉ σ.left ∧ (a, src a f, shx f) ∉ σ.held
  | .comp a g _ => (a, g, 3) ∈ σ.held

instance (σ : St) : (s : Step) → Decidable (σ.ok s)
  | .issue _ _ => inferInstanceAs (Decidable (_ ∧ _ ∧ _))
  | .recv _ _ => inferInstanceAs (Decidable (_ ∧ _ ∧ _ ∧ _))
  | .sent _ _ => inferInstanceAs (Decidable (_ ∧ _ ∧ _))
  | .comp _ _ _ => inferInstanceAs (Decidable (_ ∈ _))

/-- Where the device stands after a step. -/
def St.next (σ : St) : Step → St
  | .issue a f => { σ with todo := σ.todo.erase (a, f), fly := insert (a, f) σ.fly, held := σ.held.erase (a, src a f, shx f) }
  | .recv a f => { σ with wait := σ.wait.erase (a, f), here := insert (a, f) σ.here, held := σ.held ∪ four a (dst a f) }
  | .sent a f => { σ with fly := σ.fly.erase (a, f), left := insert (a, f) σ.left, held := insert (a, src a f, shx f) σ.held }
  | .comp _ _ _ => σ

/-- After a list of steps; and whether each may be taken in its turn. -/
def St.after (σ : St) (l : List Step) : St := l.foldl St.next σ
def St.okAll : St → List Step → Prop
  | _, [] => True
  | σ, s :: l => σ.ok s ∧ (σ.next s).okAll l
instance : (σ : St) → (l : List Step) → Decidable (σ.okAll l)
  | _, [] => inferInstanceAs (Decidable True)
  | σ, s :: l =>
    have := instDecidableOkAll (σ.next s) l
    inferInstanceAs (Decidable (_ ∧ _))

/-- The invariants of all cells at the names `K`, that each is at its round, and the levels. -/
def ctx (K : Dev nD × Key → ℕ) : sProp 𝕄 :=
  iprop((bigSep Finset.univ fun ck : Dev nD × Key => cellInv ER (Rd m ρ) (K ck) (cell ck.1 ck.2))
    ∗ (bigSep Finset.univ fun ck : Dev nD × Key => reached ER (cell ck.1 ck.2) 0) ∗ levAts L lv)

instance ctx_persistent (K : Dev nD × Key → ℕ) : BI.Persistent (ctx m ρ K) := by
  unfold ctx; infer_instance

/-- For a transfer still to be issued: the right to pay its two cells, its place at its leaving cell, and where it lands. -/
def toIssue (c : Dev nD) (t : T) : sProp 𝕄 :=
  iprop(dutyTok ER (cell c (kS t)) 0 0 ∗ dutyTok ER (cell (peer (msk t.1 t.2) c) (kR t)) 0 0 ∗ atPos ER (cell c (kS t)) 0 ∅ 0
    ∗ landing (peer (msk t.1 t.2) c) t)
/-- For a transfer under way: the claim on its leaving, and the place at its cell. -/
def flying (c : Dev nD) (t : T) : sProp 𝕄 := iprop(cred (tallyAt (cell c (kS t)) () (NN t.1)) ∗ atPos ER (cell c (kS t)) 0 ∅ 0)
/-- For an arrival to come: the claim on it, and the place at its cell. -/
def coming (c : Dev nD) (t : T) : sProp 𝕄 := iprop(cred (tallyAt (cell c (kR t)) () (NN t.1)) ∗ atPos ER (cell c (kR t)) 0 ∅ 0)
/-- A share of a filled slot. -/
def share (c : Dev nD) (x : Fin 3 × Fin 8 × Fin 4) : sProp 𝕄 := slotPts c x.1 x.2.1 (qs x.2.2) (gath m ρ c x.1)

/-- The output's staging buffer. -/
def outPts (c : Dev nD) (o : (cc0_stg4_0 : Ref sig .tc).ty.Contents (Elt F)) : sProp 𝕄 := ((c : Thread nD τ).loc cc0_stg4_0) ↦{fullShare} o

/-- What a device holds at `σ`. -/
def res (c : Dev nD) (σ : St) : sProp 𝕄 :=
  iprop(bigSep σ.todo (toIssue c) ∗ bigSep σ.fly (flying c) ∗ bigSep σ.left (fun t => semVal (cell c (kS t)) 0)
    ∗ bigSep σ.wait (coming c) ∗ bigSep σ.here (fun t => semVal (cell c (kR t)) 0)
    ∗ bigSep σ.held (share m ρ c) ∗ ∃ W, owes (c : Thread nD τ) (owesB σ.todo c) W)

/-- One member of a family. -/
theorem big_mem {I : Type} [DecidableEq I] {s : Finset I} {i : I} (h : i ∈ s) (Φ : I → sProp 𝕄) : bigSep s Φ ⊢ Φ i := BI.bigSep_elim h

section Ctx
variable (K : Dev nD × Key → ℕ)

theorem ctx_inv (c : Dev nD) (k : Key) : ctx m ρ K ⊢ cellInv ER (Rd m ρ) (K (c, k)) (cell c k) := by
  unfold ctx
  iintro ⟨H, -, -⟩
  iapply (big_mem (Finset.mem_univ ((c, k) : Dev nD × Key)) (fun ck : Dev nD × Key => cellInv ER (Rd m ρ) (K ck) (cell ck.1 ck.2)))
  iexact H
theorem ctx_reached (c : Dev nD) (k : Key) : ctx m ρ K ⊢ (reached ER (cell c k) 0 : sProp 𝕄) := by
  unfold ctx
  iintro ⟨-, H, -⟩
  iapply (big_mem (Finset.mem_univ ((c, k) : Dev nD × Key)) (fun ck : Dev nD × Key => (reached ER (cell ck.1 ck.2) 0 : sProp 𝕄)))
  iexact H
theorem ctx_lev : ctx m ρ K ⊢ (levAts L lv : sProp 𝕄) := by
  unfold ctx
  iintro ⟨-, -, H⟩
  iexact H
end Ctx

/-! ## The four kinds of step -/

variable (K : Dev nD × Key → ℕ) (c : Dev nD)

/-- The weakest precondition of a device's program. -/
abbrev wpc (c : Dev nD) {α : Type} (p : Prog (Eff F) α) (Q : α → sProp 𝕄) : sProp 𝕄 :=
  wp frame (wpE (defs₀ (F := F)) 𝒱₀ (c : Thread nD τ) none) Set.univ p Q

/-- A transfer is issued. -/
theorem step_issue {α : Type} (t : T) (O : CellTallies nD τ sig Unit) (W : Waits sig Unit) (fd) {hsc} {hsrc} {hdst} {hsem}
    (k : PUnit → Prog (Eff F) α) (Q : α → sProp 𝕄) :
    iprop(cellInv ER (Rd m ρ) (K (c, kS t)) (cell c (kS t)) ∗ cellInv ER (Rd m ρ) (K (peer (msk t.1 t.2) c, kR t)) (cell (peer (msk t.1 t.2) c) (kR t))
        ∗ slotPts c t.1 (src t.1 t.2) (qs (shx t.2)) (gath m ρ c t.1)
        ∗ slotPts (peer (msk t.1 t.2) c) t.1 (dst t.1 t.2) fullShare fd
        ∗ owes (c : Thread nD τ) (O + tallyAt (cell (peer (msk t.1 t.2) c) (kR t)) () (NN t.1)) W
        ∗ dutyTok ER (cell c (kS t)) 0 0 ∗ reached ER (cell c (kS t)) 0
        ∗ dutyTok ER (cell (peer (msk t.1 t.2) c) (kR t)) 0 0 ∗ reached ER (cell (peer (msk t.1 t.2) c) (kR t)) 0)
      ⊢ iprop(((cred (tallyAt (cell c (kS t)) () (NN t.1)) ∗ owes (c : Thread nD τ) O W) -∗ wpc c (k ⟨⟩) Q)
        -∗ wpc c (.op (.enqueueDma (slotM t.1 (src t.1 t.2))
            (.remote (Dev.tc (peer (msk t.1 t.2) c)) (slotM t.1 (dst t.1 t.2)) (.dma (sSem t.1 t.2)) hsc) (.dma (rSem t.1 t.2)) hsrc hdst hsem) k) Q) := by
  unfold slotPts slotSet
  exact Rounds.wp_send_pointsTo 𝒱₀ ER (Rd m ρ) (c : Thread nD τ) none (c' := (peer (msk t.1 t.2) c : Thread nD τ)) (src := slotM t.1 (src t.1 t.2)) (dst := slotM t.1 (dst t.1 t.2))
    (sS := .dma (sSem t.1 t.2)) (sem := .dma (rSem t.1 t.2)) (κ₁ := K (c, kS t)) (κ₂ := K (peer (msk t.1 t.2) c, kR t))
    (r₁ := 0) (r₂ := 0) (d₁ := 0) (d₂ := 0) (fs := gath m ρ c t.1) (fd := fd)
    ((Rd_duties m ρ c (kS t)).symm ▸ Finset.mem_singleton_self _) ((Rd_duties m ρ (peer (msk t.1 t.2) c) (kR t)).symm ▸ Finset.mem_singleton_self _)
    () () (NN t.1) (credit_slot _ _) (Rd_amount m ρ c (kS t) 0 0) (Rd_amount m ρ (peer (msk t.1 t.2) c) (kR t) 0 0) O rfl (W := W)
    (Entails.of_eq (Rd_payload m ρ c (kS t) 0 0).symm)
    (Entails.of_eq ((landed m ρ c t fd).trans (Rd_payload m ρ (peer (msk t.1 t.2) c) (kR t) 0 0).symm))

/-- A transfer's cell is waited for. -/
theorem step_wait {α : Type} (b : Bool) (t : T) {q : DmaSem sig} (hq : csem (.inr (b, t)) = .dma q) (O : CellTallies nD τ sig Unit) (W : Waits sig Unit)
    (g g' : Fin 8) {hsrc} {hdst}
    (k : PUnit → Prog (Eff F) α) (Q : α → sProp 𝕄) :
    iprop(cellInv ER (Rd m ρ) (K (c, .inr (b, t))) (cell c (.inr (b, t))) ∗ cred (tallyAt (cell c (.inr (b, t))) () (NN t.1))
        ∗ owes (c : Thread nD τ) O W ∗ MayWait (c : Thread nD τ) (csem (.inr (b, t))) () O ∗ atPos ER (cell c (.inr (b, t))) 0 ∅ 0)
      ⊢ iprop(((∃ W, owes (c : Thread nD τ) O W) ∗ semVal (cell c (.inr (b, t))) 0 ∗ payK m ρ c (.inr (b, t)) 0 -∗ wpc c (k ⟨⟩) Q)
        -∗ wpc c (.op (.waitDma2 q (slotM t.1 g) (slotM t.1 g') hsrc hdst) k) Q) := by
  have hw := Rounds.wp_wait_rest_token 𝒱₀ ER (Rd m ρ) (c : Thread nD τ) none (κ := K (c, .inr (b, t))) (Q := Q) (k := k)
    (w := .waitDma2 q (slotM t.1 g) (slotM t.1 g') hsrc hdst) (sm := csem (.inr (b, t))) (k' := NN t.1)
    (defs := defs₀ (F := F)) (Γ := .empty) (fun K' => by rw [hq]; exact wpE_waitDma2_eq 𝒱₀ (c : Thread nD τ) none Set.univ K')
    (Set.mem_univ _) () (O := O) (W := W) (R := 0) (m := 0) (T := ∅) ((Nat.zero_add _).trans (Rd_expect m ρ c (.inr (b, t))).symm)
  iintro ⟨#HI, Hc, HO, Hm, Hat⟩ Hk
  iapply hw $$ [Hc HO Hm Hat]
  · isplitr; · iexact HI
    isplitl [Hc]; · iexact Hc
    isplitl [HO]; · iexact HO
    isplitl [Hm]; · iexact Hm
    iexact Hat
  iintro ⟨HO, Hat, -, Hpay⟩
  ihave Hp := (Entails.of_eq ((Rd_rest m ρ c (.inr (b, t))).trans bigSep_singleton)) $$ Hpay
  imod (Rounds.cell_close ER (Rd m ρ) (Set.mem_univ (K (c, .inr (b, t)))) (fun h => h) (R := 0 + 1) (Rd_later m ρ (cell c (.inr (b, t))))) $$ [Hat] with Hz
  · isplitr; · iexact HI
    iexact Hat
  iapply Hk
  isplitl [HO]; · iexists _; iexact HO
  isplitl [Hz]; · iexact Hz
  iexact Hp

/-- The output after adding piece `p` of slot `g` of array `a`. -/
def addPiece (Y : Fin 8 → Fin 4 → FVec F S1024x512 .bf16) (a : Fin 3) (g : Fin 8) (p : Fin 2)
    (o : (cc0_stg4_0 : Ref sig .tc).ty.Contents (Elt F)) : (cc0_stg4_0 : Ref sig .tc).ty.Contents (Elt F) :=
  ((Memref.whole cc0_stg4_0 : Memref sig .tc _ _ _).access (rO a p) : View sig .tc _ _ _).write (Elt F) o
    (acc a p (Y g (pe a p)) (piece a p (wst m ρ (peer g c)))
      ((Memref.whole cc0_stg4_0 : Memref sig .tc _ _ _).view.readAt (Elt F) (rO a p).toLoadRect o)) Finset.univ

/-- A product is added. -/
theorem step_comp (Y : Fin 8 → Fin 4 → FVec F S1024x512 .bf16) (a : Fin 3) (g : Fin 8) (p : Fin 2) (q : PosShare TreeShare)
    (o : (cc0_stg4_0 : Ref sig .tc).ty.Contents (Elt F)) (k : Prog (Eff F) PUnit) (Q : PUnit → sProp 𝕄) :
    iprop(slotPts c a g q (gath m ρ c a) ∗ outPts c o)
      ⊢ iprop((slotPts c a g q (gath m ρ c a) ∗ outPts c (addPiece m ρ c Y a g p o) -∗ wpc c k Q)
        -∗ wpc c (Step.run c Y (.comp a g p) >>= fun _ => k) Q) := by
  unfold outPts
  iintro ⟨Hs, Ho⟩ Hk
  simp only [Step.run, Prog.lift, Prog.bind_op, Prog.bind_ret]
  unfold slotPts
  iapply (wp_load 𝒱₀ (c : Thread nD τ) none Set.univ (m := scr a) (piece_sub a g p)) $$ Hs; iintro Hs
  rw [read_gath_piece]
  iapply (wp_load 𝒱₀ (c : Thread nD τ) none Set.univ (m := Memref.whole cc0_stg4_0) (Finset.subset_univ _)) $$ Ho; iintro Ho
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0) (r := rO a p) (Mk := Finset.univ) (Finset.subset_univ _)) $$ Ho; iintro Ho
  iapply Hk
  isplitl [Hs]; · iexact Hs
  iexact Ho

end Cert.Moe
end
-- ==== Proof.Runs.lean ====
/- A list of steps: every step that may be taken keeps what a device holds, so a whole list does. -/
module

public import proofs.«01_k».proof.Proof.Steps

@[expose] public section

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Key → ℕ) (c : Dev nD) (Y : Fin 8 → Fin 4 → FVec F S1024x512 .bf16)

theorem big_erase {I : Type} [DecidableEq I] {s : Finset I} {i : I} (h : i ∈ s) (Φ : I → sProp 𝕄) :
    bigSep s Φ = iprop(Φ i ∗ bigSep (s.erase i) Φ) := BI.bigSep_erase h
theorem big_insert {I : Type} [DecidableEq I] {s : Finset I} {i : I} (h : i ∉ s) (Φ : I → sProp 𝕄) :
    bigSep (insert i s) Φ = iprop(Φ i ∗ bigSep s Φ) := BI.bigSep_insert h
theorem big_union {I : Type} [DecidableEq I] {s t : Finset I} (h : Disjoint s t) (Φ : I → sProp 𝕄) :
    bigSep (s ∪ t) Φ = iprop(bigSep s Φ ∗ bigSep t Φ) := BI.bigSep_union h

/-- The four shares held of a filled slot are the slot. -/
theorem four_eq (a : Fin 3) (g : Fin 8) : (slotPts c a g fullShare (gath m ρ c a) : sProp 𝕄) = bigSep (four a g) (share m ρ c) :=
  (Entails.antisymm (slot_shares c a g (gath m ρ c a)).1 (slot_shares c a g (gath m ρ c a)).2).trans (by unfold four; rw [BI.bigSep_map]; rfl)

theorem toIssue_eq (t : T) : (toIssue c t : sProp 𝕄) = iprop(dutyTok ER (cell c (kS t)) 0 0
    ∗ dutyTok ER (cell (peer (msk t.1 t.2) c) (kR t)) 0 0 ∗ atPos ER (cell c (kS t)) 0 ∅ 0
    ∗ ∃ f, slotPts (peer (msk t.1 t.2) c) t.1 (dst t.1 t.2) fullShare f) := rfl
theorem flying_eq (t : T) : (flying c t : sProp 𝕄) = iprop(cred (tallyAt (cell c (kS t)) () (NN t.1)) ∗ atPos ER (cell c (kS t)) 0 ∅ 0) := rfl
theorem coming_eq (t : T) : (coming c t : sProp 𝕄) = iprop(cred (tallyAt (cell c (kR t)) () (NN t.1)) ∗ atPos ER (cell c (kR t)) 0 ∅ 0) := rfl
theorem share_eq (x : Fin 3 × Fin 8 × Fin 4) : (share m ρ c x : sProp 𝕄) = slotPts c x.1 x.2.1 (qs x.2.2) (gath m ρ c x.1) := rfl

/-- The output after a step. -/
def outStep : Step → (cc0_stg4_0 : Ref sig .tc).ty.Contents (Elt F) → (cc0_stg4_0 : Ref sig .tc).ty.Contents (Elt F)
  | .comp a g p, o => addPiece m ρ c Y a g p o
  | _, o => o

/-- The output after a list of steps. -/
def outs (l : List Step) (o : (cc0_stg4_0 : Ref sig .tc).ty.Contents (Elt F)) : (cc0_stg4_0 : Ref sig .tc).ty.Contents (Elt F) :=
  l.foldl (fun o s => outStep m ρ c Y s o) o

/-- Issuing. -/
theorem res_issue {σ : St} {a : Fin 3} {f : Fin 7} (h : σ.ok (.issue a f)) (k : Prog (Eff F) PUnit) (Q : PUnit → sProp 𝕄) :
    iprop(ctx m ρ K ∗ res m ρ c σ) ⊢ iprop((res m ρ c (σ.next (.issue a f)) -∗ wpc c k Q)
      -∗ wpc c (Step.run c Y (.issue a f) >>= fun _ => k) Q) := by
  obtain ⟨h1, h2, h3⟩ := h
  unfold res St.next
  dsimp only
  rw [big_erase h1, big_insert h2, big_erase h3, owesT_erase h1]
  rw [toIssue_eq c (a, f), flying_eq c (a, f), share_eq m ρ c (a, src a f, shx f)]
  iintro ⟨#HC, ⟨⟨Ht1, Ht2, Hat, %fd, Hdst⟩, Htodo⟩, Hfly, Hleft, Hwait, Hhere, ⟨Hsrc, Hheld⟩, %W, HO⟩ Hk
  ihave #HI1 := (ctx_inv m ρ K c (kS (a, f))) $$ HC
  ihave #HI2 := (ctx_inv m ρ K (peer (msk a f) c) (kR (a, f))) $$ HC
  ihave #HR1 := (ctx_reached m ρ K c (kS (a, f))) $$ HC
  ihave #HR2 := (ctx_reached m ρ K (peer (msk a f) c) (kR (a, f))) $$ HC
  simp only [Step.run, Prog.lift, Prog.bind_op, Prog.bind_ret]
  iapply (step_issue m ρ K c (a, f) (owesB (σ.todo.erase (a, f)) c) W fd (fun _ => k) Q) $$ [Ht1 Ht2 Hdst Hsrc HO]
  · isplitr; · iexact HI1
    isplitr; · iexact HI2
    isplitl [Hsrc]; · iexact Hsrc
    isplitl [Hdst]; · iexact Hdst
    isplitl [HO]; · iexact HO
    isplitl [Ht1]; · iexact Ht1
    isplitr; · iexact HR1
    isplitl [Ht2]; · iexact Ht2
    iexact HR2
  iintro ⟨Hc, HO⟩
  iapply Hk
  isplitl [Htodo]; · iexact Htodo
  isplitl [Hc Hat Hfly]
  · isplitl [Hc Hat]
    · isplitl [Hc]; · iexact Hc
      iexact Hat
    iexact Hfly
  isplitl [Hleft]; · iexact Hleft
  isplitl [Hwait]; · iexact Hwait
  isplitl [Hhere]; · iexact Hhere
  isplitl [Hheld]; · iexact Hheld
  iexists W; iexact HO

/-- An arrival. -/
theorem res_recv {σ : St} {a : Fin 3} {f : Fin 7} (h : σ.ok (.recv a f)) (k : Prog (Eff F) PUnit) (Q : PUnit → sProp 𝕄) :
    iprop(ctx m ρ K ∗ res m ρ c σ) ⊢ iprop((res m ρ c (σ.next (.recv a f)) -∗ wpc c k Q)
      -∗ wpc c (Step.run c Y (.recv a f) >>= fun _ => k) Q) := by
  obtain ⟨h1, h2, h3, h4⟩ := h
  have hl : lvK (kR (a, f)) < 20 := by have := f.isLt; show 2 + f.val < 20; omega
  unfold res St.next
  dsimp only
  rw [big_erase h1, big_insert h2, big_union h4, ← four_eq, coming_eq c (a, f)]
  iintro ⟨#HC, Htodo, Hfly, Hleft, ⟨⟨Hc, Hat⟩, Hwait⟩, Hhere, Hheld, %W, HO⟩ Hk
  ihave #HI := (ctx_inv m ρ K c (kR (a, f))) $$ HC
  ihave #HL := (ctx_lev m ρ K) $$ HC
  simp only [Step.run, Prog.lift, Prog.bind_op, Prog.bind_ret]
  iapply (step_wait m ρ K c true (a, f) rfl (owesB σ.todo c) W (src a f) (dst a f) (fun _ => k) Q) $$ [Hc Hat HO]
  · isplitr; · iexact HI
    isplitl [Hc]; · iexact Hc
    isplitl [HO]; · iexact HO
    isplitr; · iapply (mayWait_owesB c (kR (a, f)) σ.todo hl h3); iexact HL
    iexact Hat
  iintro ⟨⟨%W', HO⟩, Hz, Hp⟩
  ihave Hp := (Entails.of_eq (show payK m ρ c (kR (a, f)) 0 = slotPts c a (dst a f) fullShare (gath m ρ c a) from rfl)) $$ Hp
  iapply Hk
  isplitl [Htodo]; · iexact Htodo
  isplitl [Hfly]; · iexact Hfly
  isplitl [Hleft]; · iexact Hleft
  isplitl [Hwait]; · iexact Hwait
  isplitl [Hz Hhere]
  · isplitl [Hz]; · iexact Hz
    iexact Hhere
  isplitl [Hheld Hp]
  · isplitl [Hheld]; · iexact Hheld
    iexact Hp
  iexists W'; iexact HO

/-- A leaving. -/
theorem res_sent {σ : St} {a : Fin 3} {f : Fin 7} (h : σ.ok (.sent a f)) (k : Prog (Eff F) PUnit) (Q : PUnit → sProp 𝕄) :
    iprop(ctx m ρ K ∗ res m ρ c σ) ⊢ iprop((res m ρ c (σ.next (.sent a f)) -∗ wpc c k Q)
      -∗ wpc c (Step.run c Y (.sent a f) >>= fun _ => k) Q) := by
  obtain ⟨h1, h2, h3⟩ := h
  unfold res St.next
  dsimp only
  rw [big_erase h1, big_insert h2, big_insert h3, flying_eq c (a, f), share_eq m ρ c (a, src a f, shx f)]
  iintro ⟨#HC, Htodo, ⟨⟨Hc, Hat⟩, Hfly⟩, Hleft, Hwait, Hhere, Hheld, %W, HO⟩ Hk
  ihave #HI := (ctx_inv m ρ K c (kS (a, f))) $$ HC
  ihave #HL := (ctx_lev m ρ K) $$ HC
  simp only [Step.run, Prog.lift, Prog.bind_op, Prog.bind_ret]
  iapply (step_wait m ρ K c false (a, f) rfl (owesB σ.todo c) W (dst a f) (src a f) (fun _ => k) Q) $$ [Hc Hat HO]
  · isplitr; · iexact HI
    isplitl [Hc]; · iexact Hc
    isplitl [HO]; · iexact HO
    isplitr
    · iapply (mayWait_owesB c (kS (a, f)) σ.todo (show 0 < 20 by decide) (fun t _ => by show 0 < 2 + t.2.val; omega)); iexact HL
    iexact Hat
  iintro ⟨⟨%W', HO⟩, Hz, Hp⟩
  ihave Hp := (Entails.of_eq (show payK m ρ c (kS (a, f)) 0 = slotPts c a (src a f) (qs (shx f)) (gath m ρ c a) from rfl)) $$ Hp
  iapply Hk
  isplitl [Htodo]; · iexact Htodo
  isplitl [Hfly]; · iexact Hfly
  isplitl [Hz Hleft]
  · isplitl [Hz]; · iexact Hz
    iexact Hleft
  isplitl [Hwait]; · iexact Hwait
  isplitl [Hhere]; · iexact Hhere
  isplitl [Hheld Hp]
  · isplitl [Hp]; · iexact Hp
    iexact Hheld
  iexists W'; iexact HO

/-- A product. -/
theorem res_comp {σ : St} {a : Fin 3} {g : Fin 8} {p : Fin 2} (h : σ.ok (.comp a g p)) (o : (cc0_stg4_0 : Ref sig .tc).ty.Contents (Elt F))
    (k : Prog (Eff F) PUnit) (Q : PUnit → sProp 𝕄) :
    iprop(res m ρ c σ ∗ outPts c o) ⊢ iprop((res m ρ c σ ∗ outPts c (addPiece m ρ c Y a g p o) -∗ wpc c k Q)
      -∗ wpc c (Step.run c Y (.comp a g p) >>= fun _ => k) Q) := by
  have h' : (a, g, (3 : Fin 4)) ∈ σ.held := h
  unfold res
  rw [big_erase h', share_eq m ρ c (a, g, 3)]
  iintro ⟨⟨Htodo, Hfly, Hleft, Hwait, Hhere, ⟨Hs, Hheld⟩, HO⟩, Ho⟩ Hk
  iapply (step_comp m ρ c Y a g p (qs 3) o k Q) $$ [Hs Ho]
  · isplitl [Hs]; · iexact Hs
    iexact Ho
  iintro ⟨Hs, Ho⟩
  iapply Hk
  isplitr [Ho]
  · isplitl [Htodo]; · iexact Htodo
    isplitl [Hfly]; · iexact Hfly
    isplitl [Hleft]; · iexact Hleft
    isplitl [Hwait]; · iexact Hwait
    isplitl [Hhere]; · iexact Hhere
    isplitl [Hs Hheld]
    · isplitl [Hs]; · iexact Hs
      iexact Hheld
    iexact HO
  iexact Ho

/-- Any step that may be taken. -/
theorem run_step {σ : St} {s : Step} (h : σ.ok s) (o : (cc0_stg4_0 : Ref sig .tc).ty.Contents (Elt F))
    (k : Prog (Eff F) PUnit) (Q : PUnit → sProp 𝕄) :
    iprop(ctx m ρ K ∗ res m ρ c σ ∗ outPts c o)
      ⊢ iprop((res m ρ c (σ.next s) ∗ outPts c (outStep m ρ c Y s o) -∗ wpc c k Q) -∗ wpc c (Step.run c Y s >>= fun _ => k) Q) := by
  cases s with
  | issue a f =>
    iintro ⟨#HC, HR, Ho⟩ Hk
    iapply (res_issue m ρ K c Y h k Q) $$ [HR]
    · isplitr; · iexact HC
      iexact HR
    iintro HR
    iapply Hk
    isplitl [HR]; · iexact HR
    iexact Ho
  | recv a f =>
    iintro ⟨#HC, HR, Ho⟩ Hk
    iapply (res_recv m ρ K c Y h k Q) $$ [HR]
    · isplitr; · iexact HC
      iexact HR
    iintro HR
    iapply Hk
    isplitl [HR]; · iexact HR
    iexact Ho
  | sent a f =>
    iintro ⟨#HC, HR, Ho⟩ Hk
    iapply (res_sent m ρ K c Y h k Q) $$ [HR]
    · isplitr; · iexact HC
      iexact HR
    iintro HR
    iapply Hk
    isplitl [HR]; · iexact HR
    iexact Ho
  | comp a g p =>
    iintro ⟨#HC, HR, Ho⟩ Hk
    iapply (res_comp m ρ c Y h o k Q) $$ [HR Ho]
    · isplitl [HR]; · iexact HR
      iexact Ho
    iexact Hk

/-- A list of steps each of which may be taken in its turn. -/
theorem run_steps (l : List Step) : ∀ (σ : St) (h : σ.okAll l) (o : (cc0_stg4_0 : Ref sig .tc).ty.Contents (Elt F))
    (k : Prog (Eff F) PUnit) (Q : PUnit → sProp 𝕄),
    iprop(ctx m ρ K ∗ res m ρ c σ ∗ outPts c o)
      ⊢ iprop((res m ρ c (σ.after l) ∗ outPts c (outs m ρ c Y l o) -∗ wpc c k Q) -∗ wpc c (runs c Y l k) Q) := by
  induction l with
  | nil =>
    intro σ _ o k Q
    iintro ⟨-, HR, Ho⟩ Hk
    iapply Hk
    isplitl [HR]; · iexact HR
    iexact Ho
  | cons s l ih =>
    intro σ h o k Q
    iintro ⟨#HC, HR, Ho⟩ Hk
    iapply (run_step m ρ K c Y h.1 o (runs c Y l k) Q) $$ [HR Ho]
    · isplitr; · iexact HC
      isplitl [HR]; · iexact HR
      iexact Ho
    iintro ⟨HR, Ho⟩
    iapply (ih (σ.next s) h.2 (outStep m ρ c Y s o) k Q) $$ [HR Ho]
    · isplitr; · iexact HC
      isplitl [HR]; · iexact HR
      iexact Ho
    iexact Hk

/-! ## The order of the body -/

/-- Where a device stands when the first array is packed. -/
def σ₀ : St := ⟨Finset.univ, ∅, ∅, Finset.univ, ∅, four 0 0⟩
/-- A slot packed. -/
def St.pack (σ : St) (a : Fin 3) : St := { σ with held := σ.held ∪ four a 0 }
def σ₁ : St := (σ₀.next (.issue 0 0)).pack 1
def σ₂ : St := (σ₁.next (.issue 1 0)).pack 2
def σ₃ : St := σ₂.next (.issue 2 0)

theorem ok_0 : σ₀.ok (.issue 0 0) := by decide +kernel
theorem ok_1 : Disjoint (σ₀.next (.issue 0 0)).held (four 1 0) ∧ σ₁.ok (.issue 1 0) := by decide +kernel
theorem ok_2 : Disjoint (σ₁.next (.issue 1 0)).held (four 2 0) ∧ σ₂.ok (.issue 2 0) := by decide +kernel
theorem ok_3 : σ₃.okAll first := by decide +kernel
theorem ok_4 : (σ₃.after first).okAll rest := by decide +kernel

/-- At the end every transfer is over on both sides and every share of every slot is held. -/
theorem end_todo : ((σ₃.after first).after rest).todo = ∅ := by decide +kernel
theorem end_fly : ((σ₃.after first).after rest).fly = ∅ := by decide +kernel
theorem end_left : ((σ₃.after first).after rest).left = Finset.univ := by decide +kernel
theorem end_wait : ((σ₃.after first).after rest).wait = ∅ := by decide +kernel
theorem end_here : ((σ₃.after first).after rest).here = Finset.univ := by decide +kernel
theorem end_held : ((σ₃.after first).after rest).held = Finset.univ := by decide +kernel

end Cert.Moe
end
-- ==== Proof.Meet.lean ====
/- The two meetings of the body, and the packing of a device's own experts into slot 0 of each gather array. -/
module

public import proofs.«01_k».proof.Proof.Runs

@[expose] public section

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Key → ℕ) (c : Dev nD)

theorem big_three (Φ : Fin 3 → sProp 𝕄) : bigSep Finset.univ Φ = iprop(Φ 0 ∗ Φ 1 ∗ Φ 2) :=
  bigSep_univ_eq_bigSepL [0, 1, 2] (by decide) (by decide) Φ
theorem big_bool (Φ : Bool → sProp 𝕄) : bigSep Finset.univ Φ = iprop(Φ false ∗ Φ true) :=
  bigSep_univ_eq_bigSepL [false, true] (by decide) (by decide) Φ

theorem big_mono {I : Type} {s : Finset I} {Φ Ψ : I → sProp 𝕄} (h : ∀ i ∈ s, (Φ i : sProp 𝕄) ⊢ Ψ i) : bigSep s Φ ⊢ bigSep s Ψ := bigSep_mono h

/-! ## The slots before the opening meeting -/

/-- A gather array at any contents; slot 0 of it at any contents. -/
def scrAny (a : Fin 3) : sProp 𝕄 := iprop(∃ f, (scr a).view.loc (c : Thread nD τ) ↦{fullShare} f)
def ownSlot (a : Fin 3) : sProp 𝕄 := iprop(∃ f, slotPts c a 0 fullShare f)

theorem dst_inj (a : Fin 3) : Function.Injective (dst a) := by revert a; decide
theorem dst_univ (a : Fin 3) : (Finset.univ : Finset (Fin 8)).erase 0 = Finset.univ.map ⟨dst a, dst_inj a⟩ := by revert a; decide

/-- A gather array is its slot 0 and the slots its transfers land in. -/
theorem scr_split (a : Fin 3) : scrAny c a ⊢ (iprop(ownSlot c a ∗ bigSep Finset.univ fun f : Fin 7 => landing c (a, f)) : sProp 𝕄) := by
  unfold scrAny
  iintro ⟨%f, H⟩
  ihave H := (Entails.of_eq ((whole_slots c a f).trans (big_erase (Finset.mem_univ (0 : Fin 8)) _))) $$ H
  rw [dst_univ a, BI.bigSep_map]
  icases H with ⟨H0, H⟩
  isplitl [H0]
  · unfold ownSlot; iexists f; iexact H0
  iapply (big_mono (s := (Finset.univ : Finset (Fin 7))) (Φ := fun x => slotPts c a (dst a x) fullShare f) (Ψ := fun x => landing c (a, x)) fun x _ => by
    unfold landing
    iintro H
    iexists f; iexact H)
  iexact H

/-- The slots of the three gather arrays, the landing ones dealt by the partner whose transfers land there. -/
theorem scr_deal : bigSep Finset.univ (scrAny c) ⊢ (iprop(bigSep Finset.univ (ownSlot c)
    ∗ bigSep Finset.univ fun d : Fin 3 => payK m ρ (peer (mk d) c) kBar d) : sProp 𝕄) := by
  have h2 : (bigSep Finset.univ (landing c) : sProp 𝕄) = bigSep Finset.univ fun d : Fin 3 => payK m ρ (peer (mk d) c) kBar d := by
    rw [bigSep_fiberwise Finset.univ tm, show (Finset.univ : Finset T).image tm = Finset.univ by decide]
    refine bigSep_congr fun d _ => ?_
    unfold payK
    dsimp only
    rw [peer_peer]; rfl
  iintro H
  ihave H := (big_mono (s := (Finset.univ : Finset (Fin 3))) fun a _ => scr_split (F := F) c a) $$ H
  ihave H := (Entails.of_eq (bigSep_sep' _ _ _)) $$ H
  icases H with ⟨H0, H⟩
  isplitl [H0]; · iexact H0
  ihave H := (Entails.of_eq ((bigSep_univ_prod (landing c)).symm.trans h2)) $$ H
  iexact H

/-- What the opening meeting hands a device: where its own transfers land. -/
theorem bar_deal : (bigSep Finset.univ fun d : Fin 3 => payK m ρ c kBar d : sProp 𝕄)
    = bigSep Finset.univ fun t : T => landing (peer (msk t.1 t.2) c) t := by
  rw [bigSep_fiberwise Finset.univ tm, show (Finset.univ : Finset T).image tm = Finset.univ by decide]
  refine bigSep_congr fun d _ => bigSep_congr fun t ht => ?_
  have hd : tm t = d := (Finset.mem_filter.mp ht).2
  rw [← mk_tm t, hd]

/-! ## A meeting -/

theorem owesMeet_eq (b : Bool) : owesMeet b c = tallyAt (cell (peer 1 c) (.inl b)) () 1 + tallyAt (cell (peer 3 c) (.inl b)) () 1
    + tallyAt (cell (peer 4 c) (.inl b)) () 1 := by
  unfold owesMeet; exact Fin.sum_univ_three _

/-- One signal of a meeting, to partner `d`. -/
theorem meet_signal {α : Type} (b : Bool) {s : Sem sig} (hs : csem (.inl b) = .reg s) (d : Fin 3)
    (O : CellTallies nD τ sig Unit) (W : Waits sig Unit) (k : PUnit → Prog (Eff F) α) (Q : α → sProp 𝕄) :
    iprop(ctx m ρ K ∗ owes (c : Thread nD τ) (O + tallyAt (cell (peer (mk d) c) (.inl b)) () 1) W
        ∗ dutyTok ER (cell (peer (mk d) c) (.inl b)) 0 d ∗ payK m ρ (peer (mk d) c) (.inl b) d)
      ⊢ iprop((owes (c : Thread nD τ) O W -∗ wpc c (k ⟨⟩) Q)
        -∗ wpc c (.op (.semSignal (peer (mk d) c : Thread nD τ) s ((1#32).toInt)) k) Q) := by
  have hd : d ∈ (Rd m ρ).duties ((peer (mk d) c : Thread nD τ), .reg s) 0 := by
    rw [← hs]; exact (Rd_duties m ρ (peer (mk d) c) (.inl b)).symm ▸ Finset.mem_univ d
  have hk : (Rd m ρ).amount ((peer (mk d) c : Thread nD τ), .reg s) 0 d = 1 := by
    rw [← hs]; exact Rd_amount m ρ (peer (mk d) c) (.inl b) d 0
  have h := Rounds.wp_signal 𝒱₀ ER (Rd m ρ) (c : Thread nD τ) none (dst := (peer (mk d) c : Thread nD τ)) (sem := s) (κ := K (peer (mk d) c, .inl b))
    (defs := defs₀ (F := F)) (Γ := .empty) (k := k) (Q := Q) (Es := Set.univ) hd hk () O rfl (W := W)
  rw [← hs] at h
  iintro ⟨#HC, HO, Ht, Hp⟩
  ihave #HI := (ctx_inv m ρ K (peer (mk d) c) (.inl b)) $$ HC
  ihave #HR := (ctx_reached m ρ K (peer (mk d) c) (.inl b)) $$ HC
  iapply h
  isplitr; · iexact HI
  isplitl [HO]; · iexact HO
  isplitl [Ht]; · iexact Ht
  isplitl [Hp]
  · rw [Rd_payload m ρ (peer (mk d) c) (.inl b) d 0]; iexact Hp
  iexact HR

/-- A meeting: each partner is paid its part, and each partner's part is received. -/
theorem wp_meet (b : Bool) {s : Sem sig} (hs : csem (.inl b) = .reg s) (O : CellTallies nD τ sig Unit) (W : Waits sig Unit)
    (hM : (levAts L lv : sProp 𝕄) ⊢ MayWait (c : Thread nD τ) (csem (.inl b)) () O)
    (k : Prog (Eff F) PUnit) (Q : PUnit → sProp 𝕄) :
    iprop(ctx m ρ K ∗ owes (c : Thread nD τ) (O + owesMeet b c) W
        ∗ (bigSep Finset.univ fun d : Fin 3 => dutyTok ER (cell (peer (mk d) c) (.inl b)) 0 d)
        ∗ (bigSep Finset.univ fun d : Fin 3 => payK m ρ (peer (mk d) c) (.inl b) d)
        ∗ atPos ER (cell c (.inl b)) 0 ∅ 0 ∗ cred (tallyAt (cell c (.inl b)) () 3))
      ⊢ iprop(((∃ W, owes (c : Thread nD τ) O W) ∗ semVal (cell c (.inl b)) 0 ∗ (bigSep Finset.univ fun d : Fin 3 => payK m ρ c (.inl b) d) -∗ wpc c k Q)
        -∗ wpc c (meet s c k) Q) := by
  unfold meet
  simp only [semSignalWord, semWaitWord, Prog.lift, Prog.bind_op, Prog.bind_ret, Prog.pure_eq_ret]
  rw [big_three, big_three, owesMeet_eq,
    show O + (tallyAt (cell (peer 1 c) (.inl b)) () 1 + tallyAt (cell (peer 3 c) (.inl b)) () 1 + tallyAt (cell (peer 4 c) (.inl b)) () 1)
      = O + tallyAt (cell (peer 4 c) (.inl b)) () 1 + tallyAt (cell (peer 3 c) (.inl b)) () 1 + tallyAt (cell (peer 1 c) (.inl b)) () 1 by
        rw [add_comm (_ + _) (tallyAt (cell (peer 4 c) (.inl b)) () 1), add_comm (tallyAt (cell (peer 1 c) (.inl b)) () 1), ← add_assoc, ← add_assoc]]
  iintro ⟨#HC, HO, ⟨Ht0, Ht1, Ht2⟩, ⟨Hp0, Hp1, Hp2⟩, Hat, Hc⟩ Hk
  iapply (meet_signal m ρ K c b hs 0 _ W) $$ [HO Ht0 Hp0]
  · isplitr; · iexact HC
    isplitl [HO]; · iexact HO
    isplitl [Ht0]; · iexact Ht0
    iexact Hp0
  iintro HO
  iapply (meet_signal m ρ K c b hs 1 _ W) $$ [HO Ht1 Hp1]
  · isplitr; · iexact HC
    isplitl [HO]; · iexact HO
    isplitl [Ht1]; · iexact Ht1
    iexact Hp1
  iintro HO
  iapply (meet_signal m ρ K c b hs 2 _ W) $$ [HO Ht2 Hp2]
  · isplitr; · iexact HC
    isplitl [HO]; · iexact HO
    isplitl [Ht2]; · iexact Ht2
    iexact Hp2
  iintro HO
  ihave #HI := (ctx_inv m ρ K c (.inl b)) $$ HC
  ihave #HL := (ctx_lev m ρ K) $$ HC
  have hw := Rounds.wp_wait_rest_token 𝒱₀ ER (Rd m ρ) (c : Thread nD τ) none (κ := K (c, .inl b)) (Q := Q) (k := fun _ => k)
    (w := .semWait s ((3#32).toInt)) (sm := csem (.inl b)) (k' := 3)
    (defs := defs₀ (F := F)) (Γ := .empty) (fun K' => by rw [hs]; exact wpE_semWait_eq 𝒱₀ (c : Thread nD τ) none Set.univ K')
    (Set.mem_univ _) () (O := O) (W := W) (R := 0) (m := 0) (T := ∅) (by rw [Rd_expect]; rfl)
  iapply hw $$ [Hc HO Hat]
  · isplitr; · iexact HI
    isplitl [Hc]; · iexact Hc
    isplitl [HO]; · iexact HO
    isplitr; · iapply hM; iexact HL
    iexact Hat
  iintro ⟨HO, Hat, -, Hpay⟩
  ihave Hp := (Entails.of_eq (Rd_rest m ρ c (.inl b))) $$ Hpay
  imod (Rounds.cell_close ER (Rd m ρ) (Set.mem_univ (K (c, .inl b))) (fun h => h) (R := 0 + 1) (Rd_later m ρ (cell c (.inl b)))) $$ [Hat] with Hz
  · isplitr; · iexact HI
    iexact Hat
  iapply Hk
  isplitl [HO]; · iexists _; iexact HO
  isplitl [Hz]; · iexact Hz
  iexact Hp

/-! ## Packing -/

/-- The staged experts. -/
def wPts : sProp 𝕄 := ((c : Thread nD τ).loc cc0_stg3_0) ↦{fullShare} (wst m ρ c)

/-- The two pieces of an array's own slot are packed. -/
theorem wp_pack (a : Fin 3) (k : Prog (Eff F) PUnit) (Q : PUnit → sProp 𝕄) :
    iprop(ownSlot c a ∗ wPts m ρ c)
      ⊢ iprop((slotPts c a 0 fullShare (gath m ρ c a) ∗ wPts m ρ c -∗ wpc c k Q)
        -∗ wpc c (packStep a 0 >>= fun _ => packStep a 1 >>= fun _ => k) Q) := by
  have hsub : ∀ p, ((scr a).access (rP a 0 p) : View sig .tc _ _ _).setOn Finset.univ ⊆ slotSet a 0 := fun p => by
    rw [View.setOn_univ, View.set_slice]; exact piece_sub a 0 p
  unfold ownSlot wPts
  iintro ⟨⟨%f, Hs⟩, Hw⟩ Hk
  simp only [packStep, Prog.lift, Prog.bind_op, Prog.bind_ret]
  rw [← packed_slot m ρ c a f]
  unfold slotPts
  iapply (wp_load 𝒱₀ (c : Thread nD τ) none Set.univ (m := Memref.whole cc0_stg3_0) (Finset.subset_univ _)) $$ Hw; iintro Hw
  rw [read_piece]
  iapply (wp_load 𝒱₀ (c : Thread nD τ) none Set.univ (m := scr a) (piece_sub a 0 0)) $$ Hs; iintro Hs
  iapply (wp_store 𝒱₀ (c : Thread nD τ) none Set.univ (m := scr a) (r := rP a 0 0) (Mk := Finset.univ) (hsub 0)) $$ Hs; iintro Hs
  iapply (wp_load 𝒱₀ (c : Thread nD τ) none Set.univ (m := Memref.whole cc0_stg3_0) (Finset.subset_univ _)) $$ Hw; iintro Hw
  rw [read_piece]
  iapply (wp_load 𝒱₀ (c : Thread nD τ) none Set.univ (m := scr a) (piece_sub a 0 1)) $$ Hs; iintro Hs
  iapply (wp_store 𝒱₀ (c : Thread nD τ) none Set.univ (m := scr a) (r := rP a 0 1) (Mk := Finset.univ) (hsub 1)) $$ Hs; iintro Hs
  iapply Hk
  isplitl [Hs]; · iexact Hs
  iexact Hw

end Cert.Moe
end
-- ==== Proof.Body.lean ====
/- The body run from start to end: from what a device is given at launch to what it leaves. -/
module

public import proofs.«01_k».proof.Proof.Meet

@[expose] public section

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Key → ℕ) (c : Dev nD)

/-! ## What a device is given -/

/-- The rights to pay the cells it pays: its partners' meetings, its own leavings, its partners' arrivals. -/
def payToks : sProp 𝕄 :=
  iprop((bigSep Finset.univ fun d : Fin 3 => dutyTok ER (cell (peer (mk d) c) kBar) 0 d)
    ∗ (bigSep Finset.univ fun d : Fin 3 => dutyTok ER (cell (peer (mk d) c) kFin) 0 d)
    ∗ (bigSep Finset.univ fun t : T => dutyTok ER (cell c (kS t)) 0 0)
    ∗ bigSep Finset.univ fun t : T => dutyTok ER (cell (peer (msk t.1 t.2) c) (kR t)) 0 0)

/-- The claims on what its partners owe its cells. -/
def creds : sProp 𝕄 :=
  iprop(cred (tallyAt (cell c kBar) () 3) ∗ cred (tallyAt (cell c kFin) () 3)
    ∗ bigSep Finset.univ fun t : T => cred (tallyAt (cell c (kR t)) () (NN t.1)))

/-- The protocol's part of what it is given. -/
def ghost : sProp 𝕄 := iprop(ctx m ρ K ∗ (bigSep Finset.univ fun k : Key => atPos ER (cell c k) 0 ∅ 0) ∗ payToks c)

/-- All cells closed at zero. -/
def zeros : sProp 𝕄 := bigSep Finset.univ fun k : Key => semVal (cell c k) 0

/-- A family over the cells: the meetings, the leavings, the arrivals. -/
theorem big_key (Φ : Key → sProp 𝕄) : bigSep Finset.univ Φ
    = iprop((Φ kBar ∗ Φ kFin) ∗ (bigSep Finset.univ fun t : T => Φ (kS t)) ∗ bigSep Finset.univ fun t : T => Φ (kR t)) := by
  rw [bigSep_univ_sum, bigSep_univ_prod, big_bool, big_bool]; rfl

/-- After the opening meeting and the first packing. -/
theorem res_start :
    iprop((bigSep Finset.univ fun t : T => dutyTok ER (cell c (kS t)) 0 0)
        ∗ (bigSep Finset.univ fun t : T => dutyTok ER (cell (peer (msk t.1 t.2) c) (kR t)) 0 0)
        ∗ (bigSep Finset.univ fun t : T => atPos ER (cell c (kS t)) 0 ∅ 0)
        ∗ (bigSep Finset.univ fun t : T => landing (peer (msk t.1 t.2) c) t)
        ∗ (bigSep Finset.univ fun t : T => cred (tallyAt (cell c (kR t)) () (NN t.1)))
        ∗ (bigSep Finset.univ fun t : T => atPos ER (cell c (kR t)) 0 ∅ 0)
        ∗ slotPts c 0 0 fullShare (gath m ρ c 0) ∗ ∃ W, owes (c : Thread nD τ) (owesB Finset.univ c) W)
      ⊢ (res m ρ c σ₀ : sProp 𝕄) := by
  unfold res σ₀
  dsimp only
  rw [show (bigSep Finset.univ (toIssue c) : sProp 𝕄) = _ from bigSep_sep' _ _ _, bigSep_sep', bigSep_sep',
    show (bigSep Finset.univ (coming c) : sProp 𝕄) = _ from bigSep_sep' _ _ _, four_eq, bigSep_empty, bigSep_empty, bigSep_empty]
  iintro ⟨H1, H2, H3, H4, H5, H6, H7, H8⟩
  isplitl [H1 H2 H3 H4]
  · isplitl [H1]; · iexact H1
    isplitl [H2]; · iexact H2
    isplitl [H3]; · iexact H3
    iexact H4
  isplitr; · iempintro
  isplitr; · iempintro
  isplitl [H5 H6]
  · isplitl [H5]; · iexact H5
    iexact H6
  isplitr; · iempintro
  isplitl [H7]; · iexact H7
  iexact H8

/-- A slot packed between two steps. -/
theorem res_pack {σ : St} {a : Fin 3} (h : Disjoint σ.held (four a 0)) :
    iprop(res m ρ c σ ∗ slotPts c a 0 fullShare (gath m ρ c a)) ⊢ (res m ρ c (σ.pack a) : sProp 𝕄) := by
  unfold res St.pack
  dsimp only
  rw [big_union h, four_eq]
  iintro ⟨⟨H1, H2, H3, H4, H5, H6, H7⟩, Hs⟩
  isplitl [H1]; · iexact H1
  isplitl [H2]; · iexact H2
  isplitl [H3]; · iexact H3
  isplitl [H4]; · iexact H4
  isplitl [H5]; · iexact H5
  isplitl [H6 Hs]
  · isplitl [H6]; · iexact H6
    iexact Hs
  iexact H7

/-- A gather array full. -/
def scrFull (a : Fin 3) : sProp 𝕄 := (scr a).view.loc (c : Thread nD τ) ↦{fullShare} (gath m ρ c a)

theorem held_full : (bigSep Finset.univ (share m ρ c) : sProp 𝕄) = bigSep Finset.univ (scrFull m ρ c) := by
  rw [bigSep_univ_prod]
  refine bigSep_congr fun a _ => ?_
  rw [bigSep_univ_prod]
  unfold scrFull
  rw [whole_slots]
  refine bigSep_congr fun g _ => ?_
  exact (Entails.antisymm (slot_shares c a g (gath m ρ c a)).1 (slot_shares c a g (gath m ρ c a)).2).symm

/-- What is held after the last step. -/
theorem res_end : res m ρ c ((σ₃.after first).after rest) ⊢ (iprop((bigSep Finset.univ fun t : T => semVal (cell c (kS t)) 0)
    ∗ (bigSep Finset.univ fun t : T => semVal (cell c (kR t)) 0) ∗ bigSep Finset.univ (scrFull m ρ c)
    ∗ ∃ W, owes (c : Thread nD τ) (0 + owesMeet true c) W) : sProp 𝕄) := by
  unfold res
  rw [end_todo, end_fly, end_left, end_wait, end_here, end_held, held_full]
  rw [show owesB ∅ c = 0 + owesMeet true c by unfold owesB owesT; rw [Finset.sum_empty]]
  iintro ⟨-, -, H3, -, H5, H6, H7⟩
  isplitl [H3]; · iexact H3
  isplitl [H5]; · iexact H5
  isplitl [H6]; · iexact H6
  iexact H7

/-! ## The output -/

/-- The routing indices' two columns as the body reads them. -/
def icol (j : Fin 2) (I : (cc0_stg2_0 : Ref sig .tc).ty.Contents (Elt F)) : Vec F S1024x1 .i32 :=
  match j with
  | 0 => (Memref.whole cc0_stg2_0 : Memref sig .tc _ _ _).view.readAt (Elt F) (Rect.unit (s := S1024x2) ![0, 0] S1024x1.size inb_S1024x2_S1024x1_0_0).toLoadRect I
  | 1 => (Memref.whole cc0_stg2_0 : Memref sig .tc _ _ _).view.readAt (Elt F) (Rect.unit (s := S1024x2) ![0, 1] S1024x1.size inb_S1024x2_S1024x1_0_1).toLoadRect I

/-- The output from the staged tokens, router and indices. -/
def outOf (X : (cc0_stg0_0 : Ref sig .tc).ty.Contents (Elt F)) (R : (cc0_stg1_0 : Ref sig .tc).ty.Contents (Elt F))
    (I : (cc0_stg2_0 : Ref sig .tc).ty.Contents (Elt F)) : (cc0_stg4_0 : Ref sig .tc).ty.Contents (Elt F) :=
  outs m ρ c (fun g j => wx X R (icol 0 I) (icol 1 I) (egw c g j)) rest (k0_pay19 (F := F))

/-- What the body leaves besides its staging buffers: the gather arrays full, and all cells at zero. -/
def leaves : sProp 𝕄 := iprop(bigSep Finset.univ (scrFull m ρ c) ∗ zeros c)

theorem hz : (![0, 0] : Fin 2 → Nat) = fun _ => 0 := funext fun a => by fin_cases a <;> rfl
theorem read_x (X : (cc0_stg0_0 : Ref sig .tc).ty.Contents (Elt F)) :
    (Memref.whole cc0_stg0_0 : Memref sig .tc _ _ _).view.readAt (Elt F) (Rect.unit (s := S1024x512) ![0, 0] S1024x512.size inb_S1024x512_S1024x512_0_0).toLoadRect X = X :=
  Memref.readAt_unit_zero (Elt F) cc0_stg0_0 hz _ X
theorem read_r (R : (cc0_stg1_0 : Ref sig .tc).ty.Contents (Elt F)) :
    (Memref.whole cc0_stg1_0 : Memref sig .tc _ _ _).view.readAt (Elt F) (Rect.unit (s := S512x32) ![0, 0] S512x32.size inb_S512x32_S512x32_0_0).toLoadRect R = R :=
  Memref.readAt_unit_zero (Elt F) cc0_stg1_0 hz _ R
theorem write_out (o w : (cc0_stg4_0 : Ref sig .tc).ty.Contents (Elt F)) :
    ((Memref.whole cc0_stg4_0 : Memref sig .tc _ _ _).access (Rect.unit (s := S1024x1024) ![0, 0] S1024x1024.size inb_S1024x1024_S1024x1024_0_0) : View sig .tc _ _ _).write (Elt F) o w Finset.univ = w :=
  Memref.write_access_unit_zero_univ (Elt F) cc0_stg4_0 hz _ o w

theorem read_i0 (I : (cc0_stg2_0 : Ref sig .tc).ty.Contents (Elt F)) :
    (Memref.whole cc0_stg2_0 : Memref sig .tc _ _ _).view.readAt (Elt F) (Rect.unit (s := S1024x2) ![0, 0] S1024x1.size inb_S1024x2_S1024x1_0_0).toLoadRect I = icol 0 I := rfl
theorem read_i1 (I : (cc0_stg2_0 : Ref sig .tc).ty.Contents (Elt F)) :
    (Memref.whole cc0_stg2_0 : Memref sig .tc _ _ _).view.readAt (Elt F) (Rect.unit (s := S1024x2) ![0, 1] S1024x1.size inb_S1024x2_S1024x1_0_1).toLoadRect I = icol 1 I := rfl

theorem outs_first (Y : Fin 8 → Fin 4 → FVec F S1024x512 .bf16) (o) : outs m ρ c Y first o = o := rfl

/-- The closing meeting hands nothing. -/
theorem fin_deal : (iprop(emp) : sProp 𝕄) ⊢ bigSep Finset.univ fun d : Fin 3 => payK m ρ (peer (mk d) c) kFin d := by
  rw [big_three]
  show (iprop(emp) : sProp 𝕄) ⊢ iprop(emp ∗ emp ∗ emp)
  iintro -
  isplitr; · iempintro
  isplitr <;> iempintro

/-- The whole body. -/
theorem wp_text (X : (cc0_stg0_0 : Ref sig .tc).ty.Contents (Elt F)) (R : (cc0_stg1_0 : Ref sig .tc).ty.Contents (Elt F))
    (I : (cc0_stg2_0 : Ref sig .tc).ty.Contents (Elt F)) (o : (cc0_stg4_0 : Ref sig .tc).ty.Contents (Elt F)) (W : Waits sig Unit) (Q : PUnit → sProp 𝕄) :
    iprop(ghost m ρ K c ∗ creds c ∗ bigSep Finset.univ (scrAny c) ∗ owes (c : Thread nD τ) (O₀ c) W
        ∗ (((c : Thread nD τ).loc cc0_stg0_0) ↦{fullShare} X) ∗ (((c : Thread nD τ).loc cc0_stg1_0) ↦{fullShare} R)
        ∗ (((c : Thread nD τ).loc cc0_stg2_0) ↦{fullShare} I) ∗ wPts m ρ c ∗ outPts c o)
      ⊢ iprop(((leaves m ρ c ∗ ∃ W, owes (c : Thread nD τ) 0 W)
          ∗ (((c : Thread nD τ).loc cc0_stg0_0) ↦{fullShare} X) ∗ (((c : Thread nD τ).loc cc0_stg1_0) ↦{fullShare} R)
          ∗ (((c : Thread nD τ).loc cc0_stg2_0) ↦{fullShare} I) ∗ wPts m ρ c ∗ outPts c (outOf m ρ c X R I) -∗ Q ⟨⟩)
        -∗ wpc c (text (F := F)) Q) := by
  unfold ghost payToks creds
  rw [big_key]
  iintro ⟨⟨#HC, ⟨⟨HaB, HaF⟩, HaS, HaR⟩, HtB, HtF, HtS, HtR⟩, ⟨HcB, HcF, HcR⟩, Hscr, HO, Hx, Hr, Hi, Hw, Ho⟩ Hk
  ihave #HL := (ctx_lev m ρ K) $$ HC
  ihave Hscr := (scr_deal m ρ c) $$ Hscr
  icases Hscr with ⟨Hslots, Hpay⟩
  ihave Hslots := (Entails.of_eq (big_three _)) $$ Hslots
  icases Hslots with ⟨Hs0, Hs1, Hs2⟩
  unfold text
  simp only [Prog.lift, Prog.bind_op, Prog.bind_ret, wp_deviceId]
  -- the opening meeting
  iapply (wp_meet m ρ K c false (s := sig.barrier 0 rfl) rfl (owesB Finset.univ c) W
      (mayWait_owesB c kBar Finset.univ (show 1 < 20 by decide) (fun t _ => by show 1 < 2 + t.2.val; omega)) _ Q) $$ [HO HtB Hpay HaB HcB]
  · isplitr; · iexact HC
    isplitl [HO]; · iexact HO
    isplitl [HtB]; · iexact HtB
    isplitl [Hpay]; · iexact Hpay
    isplitl [HaB]; · iexact HaB
    iexact HcB
  iintro ⟨HO, HzB, Hpay⟩
  ihave Hland := (Entails.of_eq (bar_deal m ρ c)) $$ Hpay
  -- each array is packed and its first transfer issued
  iapply (wp_pack m ρ c 0) $$ [Hs0 Hw]
  · isplitl [Hs0]; · iexact Hs0
    iexact Hw
  iintro ⟨Hs0, Hw⟩
  ihave HR := (res_start m ρ c) $$ [HtS HtR HaS Hland HcR HaR Hs0 HO]
  · isplitl [HtS]; · iexact HtS
    isplitl [HtR]; · iexact HtR
    isplitl [HaS]; · iexact HaS
    isplitl [Hland]; · iexact Hland
    isplitl [HcR]; · iexact HcR
    isplitl [HaR]; · iexact HaR
    isplitl [Hs0]; · iexact Hs0
    iexact HO
  iapply (res_issue m ρ K c _ ok_0) $$ [HR]
  · isplitr; · iexact HC
    iexact HR
  iintro HR
  iapply (wp_pack m ρ c 1) $$ [Hs1 Hw]
  · isplitl [Hs1]; · iexact Hs1
    iexact Hw
  iintro ⟨Hs1, Hw⟩
  ihave HR := (res_pack m ρ c ok_1.1) $$ [HR Hs1]
  · isplitl [HR]; · iexact HR
    iexact Hs1
  iapply (res_issue m ρ K c _ ok_1.2) $$ [HR]
  · isplitr; · iexact HC
    iexact HR
  iintro HR
  iapply (wp_pack m ρ c 2) $$ [Hs2 Hw]
  · isplitl [Hs2]; · iexact Hs2
    iexact Hw
  iintro ⟨Hs2, Hw⟩
  ihave HR := (res_pack m ρ c ok_2.1) $$ [HR Hs2]
  · isplitl [HR]; · iexact HR
    iexact Hs2
  iapply (res_issue m ρ K c _ ok_2.2) $$ [HR]
  · isplitr; · iexact HC
    iexact HR
  iintro HR
  -- the other transfers of the first wave
  iapply (run_steps m ρ K c _ first σ₃ ok_3 o _ Q) $$ [HR Ho]
  · isplitr; · iexact HC
    isplitl [HR]; · iexact HR
    iexact Ho
  iintro ⟨HR, Ho⟩
  rw [outs_first]
  -- the operands, and the output cleared
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg1_0) (Finset.subset_univ _)) $$ Hr; iintro Hr
  iapply (wp_load 𝒱₀ (c : Thread nD τ) none Set.univ (m := Memref.whole cc0_stg2_0) (Finset.subset_univ _)) $$ Hi; iintro Hi
  iapply (wp_load 𝒱₀ (c : Thread nD τ) none Set.univ (m := Memref.whole cc0_stg2_0) (Finset.subset_univ _)) $$ Hi; iintro Hi
  rw [read_x, read_r, read_i0, read_i1]
  unfold outPts
  iapply (wp_load 𝒱₀ (c : Thread nD τ) none Set.univ (m := Memref.whole cc0_stg4_0) (Finset.subset_univ _)) $$ Ho; iintro Ho
  iapply (wp_store 𝒱₀ (c : Thread nD τ) none Set.univ (m := Memref.whole cc0_stg4_0)
      (r := Rect.unit (s := S1024x1024) ![0, 0] S1024x1024.size inb_S1024x1024_S1024x1024_0_0) (Mk := Finset.univ) (Finset.subset_univ _)) $$ Ho; iintro Ho
  rw [write_out]
  -- the products, the later waves, and the copies having left
  iapply (run_steps m ρ K c (fun g j => wx X R (icol 0 I) (icol 1 I) (egw c g j)) rest (σ₃.after first) ok_4 (k0_pay19 (F := F)) _ Q) $$ [HR Ho]
  · isplitr; · iexact HC
    isplitl [HR]; · iexact HR
    unfold outPts; iexact Ho
  iintro ⟨HR, Ho⟩
  ihave HR := (res_end m ρ c) $$ HR
  icases HR with ⟨HzS, HzR, Hscr, ⟨%W', HO⟩⟩
  -- the closing meeting
  iapply (wp_meet m ρ K c true (s := cc0_scoped0.sem) rfl 0 W' (by rw [MayWait_zero]; iintro -; iempintro) _ Q) $$ [HO HtF HaF HcF]
  · isplitr; · iexact HC
    isplitl [HO]; · iexact HO
    isplitl [HtF]; · iexact HtF
    isplitr; · iapply (fin_deal m ρ c); iempintro
    isplitl [HaF]; · iexact HaF
    iexact HcF
  iintro ⟨HO, HzF, -⟩
  rw [Prog.pure_eq_ret]
  unfold wpc
  rw [wp_ret]
  imodintro
  iapply Hk
  isplitl [Hscr HzB HzF HzS HzR HO]
  · isplitr [HO]
    · unfold leaves zeros
      rw [big_key]
      isplitl [Hscr]; · iexact Hscr
      isplitl [HzB HzF]
      · isplitl [HzB]; · iexact HzB
        iexact HzF
      isplitl [HzS]; · iexact HzS
      iexact HzR
    iexact HO
  isplitl [Hx]; · iexact Hx
  isplitl [Hr]; · iexact Hr
  isplitl [Hi]; · iexact Hi
  isplitl [Hw]; · iexact Hw
  unfold outPts outOf; iexact Ho

end Cert.Moe
end
-- ==== Proof.Deal.lean ====
/- The launch's ghost state: the cells funded and opened, the rights to pay dealt to the devices that pay, and each
   device's claims on what the others owe it. -/
module

public import proofs.«01_k».proof.Proof.Body

@[expose] public section

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

theorem sep_four (A B C D : sProp 𝕄) : iprop(A ∗ B ∗ C ∗ D) = iprop((A ∗ B) ∗ C ∗ D) := by
  have h1 : iprop(A ∗ B ∗ C ∗ D) ⊢ iprop((A ∗ B) ∗ C ∗ D) := by
    iintro ⟨H1, H2, H3, H4⟩
    isplitl [H1 H2]
    · isplitl [H1]; · iexact H1
      iexact H2
    isplitl [H3]; · iexact H3
    iexact H4
  have h2 : iprop((A ∗ B) ∗ C ∗ D) ⊢ iprop(A ∗ B ∗ C ∗ D) := by
    iintro ⟨⟨H1, H2⟩, H3, H4⟩
    isplitl [H1]; · iexact H1
    isplitl [H2]; · iexact H2
    isplitl [H3]; · iexact H3
    iexact H4
  exact Entails.antisymm h1 h2
theorem sep_turn (A B C : sProp 𝕄) : iprop((A ∗ B) ∗ C) = iprop((C ∗ A) ∗ B) := by
  have h1 : iprop((A ∗ B) ∗ C) ⊢ iprop((C ∗ A) ∗ B) := by
    iintro ⟨⟨H1, H2⟩, H3⟩
    isplitr [H2]
    · isplitl [H3]; · iexact H3
      iexact H1
    iexact H2
  have h2 : iprop((C ∗ A) ∗ B) ⊢ iprop((A ∗ B) ∗ C) := by
    iintro ⟨⟨H3, H1⟩, H2⟩
    isplitr [H3]
    · isplitl [H1]; · iexact H1
      iexact H2
    iexact H3
  exact Entails.antisymm h1 h2
theorem big_sub {I : Type} [DecidableEq I] {s t : Finset I} (h : t ⊆ s) (Φ : I → sProp 𝕄) : bigSep s Φ ⊢ bigSep t Φ := bigSep_subset h

/-! ## The cells and the rights to pay -/

theorem dev_of_cell {c c' : Dev nD} {k k' : Key} (h : cell c k = cell c' k') : c = c' := congrArg (fun g : GSem nD τ sig => g.1.1) h
theorem key_of_cell {c c' : Dev nD} {k k' : Key} (h : cell c k = cell c' k') : k = k' := csem_inj (congrArg Prod.snd h)

def pcell (ck : Dev nD × Key) : GSem nD τ sig := cell ck.1 ck.2
theorem pcell_inj : Function.Injective pcell := fun _ _ h => Prod.ext (dev_of_cell h) (key_of_cell h)
def allCells : Finset (GSem nD τ sig) := Finset.univ.map ⟨pcell, pcell_inj⟩

/-- The duties of a device's cells: a meeting and a partner, or a transfer's cell. -/
abbrev Duty : Type := (Bool × Fin 3) ⊕ (Bool × T)
def dkey : Duty → Key
  | .inl (b, _) => .inl b
  | .inr x => .inr x
def dnum : Duty → Fin 3
  | .inl (_, d) => d
  | .inr _ => 0
theorem duty_inj : ∀ j j' : Duty, dkey j = dkey j' → dnum j = dnum j' → j = j'
  | .inl (b, d), .inl (b', d'), h, h' => by cases h; cases h'; rfl
  | .inl _, .inr _, h, _ => by cases h
  | .inr _, .inl _, h, _ => by cases h
  | .inr _, .inr _, h, _ => by cases h; rfl

def tokOf (cj : Dev nD × Duty) : GSem nD τ sig × ℕ × Fin 3 := (cell cj.1 (dkey cj.2), 0, dnum cj.2)
theorem tokOf_inj : Function.Injective tokOf := fun x y h => by
  have h1 := congrArg Prod.fst h
  exact Prod.ext (dev_of_cell h1) (duty_inj _ _ (key_of_cell h1) (congrArg (fun z => z.2.2) h))
def allToks : Finset (GSem nD τ sig × ℕ × Fin 3) := Finset.univ.map ⟨tokOf, tokOf_inj⟩

/-- The right to pay duty `j` of device `c`. -/
def tok (c : Dev nD) (j : Duty) : sProp 𝕄 := dutyTok ER (cell c (dkey j)) 0 (dnum j)

/-- Who pays a duty: the device across this mask. -/
def payer : Duty → Fin 8
  | .inl (_, d) => mk d
  | .inr (false, _) => 0
  | .inr (true, t) => msk t.1 t.2

/-- Each duty of each device, matched with the same duty of the device that pays it. -/
def turn : Dev nD × Duty ≃ Dev nD × Duty where
  toFun x := (peer (payer x.2) x.1, x.2)
  invFun x := (peer (payer x.2) x.1, x.2)
  left_inv x := Prod.ext (peer_peer _ _) rfl
  right_inv x := Prod.ext (peer_peer _ _) rfl

/-- The rights a device pays with are the duties it pays. -/
theorem payToks_eq (c : Dev nD) : (payToks c : sProp 𝕄) = bigSep Finset.univ fun j => tok (peer (payer j) c) j := by
  rw [bigSep_univ_sum, bigSep_univ_prod, bigSep_univ_prod, big_bool, big_bool]
  have h : (bigSep Finset.univ fun t : T => tok (peer (payer (.inr (false, t))) c) (.inr (false, t)) : sProp 𝕄)
      = bigSep Finset.univ fun t : T => dutyTok ER (cell c (kS t)) 0 0 := bigSep_congr fun t _ => by
    show dutyTok ER (cell (peer 0 c) (kS t)) 0 0 = _
    rw [peer_zero]
  rw [h]
  exact sep_four _ _ _ _

/-- Dealt from the owners of the cells to the payers. -/
theorem toks_dealt : (bigSep Finset.univ fun c : Dev nD => bigSep Finset.univ fun j => tok c j : sProp 𝕄) = bigSep Finset.univ fun c : Dev nD => payToks c := by
  rw [← bigSep_univ_prod (fun x : Dev nD × Duty => (tok x.1 x.2 : sProp 𝕄)), bigSep_univ_equiv turn, bigSep_univ_prod]
  exact bigSep_congr fun c _ => (payToks_eq c).symm

/-! ## Funding and opening -/

/-- The element of ghost state the launch starts from. -/
def u₀ : UU := (initOf (Pipeline.cells cfgs cellOf_inj) (Pipeline.launchToks cfgs cellOf_inj), initOf allCells allToks)

/-- What the launch deals a device at first. -/
def G (c : Dev nD) : sProp 𝕄 :=
  iprop((bigSep Finset.univ fun k : Key => roundState ER (Rd m ρ) (cell c k) 0)
    ∗ (bigSep Finset.univ fun k : Key => atPos ER (cell c k) 0 ∅ 0) ∗ (bigSep Finset.univ fun k : Key => reached ER (cell c k) 0)
    ∗ bigSep Finset.univ fun j => tok c j)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Key => Φ (cell c k) := by
    unfold allCells; rw [bigSep_map, bigSep_univ_prod]; rfl
  have hT : bigSep allToks (fun x => (dutyTok ER x.1 x.2.1 x.2.2 : sProp 𝕄)) = bigSep Finset.univ fun c : Dev nD => bigSep Finset.univ fun j => tok c j := by
    unfold allToks; rw [bigSep_map, bigSep_univ_prod]; rfl
  iintro HX
  imod (Rounds.fund ER (Rd m ρ) allCells allToks) $$ HX with ⟨Hst, Hr, Hat, Htok⟩
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  imodintro
  unfold G
  simp only [bigSep_sep']
  isplitl [Hst]; · iexact Hst
  isplitl [Hat]; · iexact Hat
  isplitl [Hr]; · iexact Hr
  iexact Htok

/-- The kernel's own semaphores: the closing meeting's and the transfers'. -/
def osem : Unit ⊕ (Bool × T) → SemLoc sig
  | .inl () => csem kFin
  | .inr x => csem (.inr x)

theorem unscoped_eq (c : Dev nD) : (unscopedSems0 c : sProp 𝕄) = semVal (cell c kBar) 0 := by
  unfold unscopedSems0
  exact bigSep_eq_bigSepL_of_eq [csem kBar] (by decide +kernel) (by decide) _

/-- The kernel's own counters and the runtime's are the cells' counters. -/
theorem sems_eq (c : Dev nD) : iprop(Pipeline.ownSems0 (Ix := Unit) (Name := ℕ) (U := UU) (Lvl := ℕ) (Val := Elt F) (τ := τ) osem c ∗ unscopedSems0 c)
    = (zeros c : sProp 𝕄) := by
  unfold Pipeline.ownSems0 zeros
  rw [unscoped_eq, bigSep_univ_sum, bigSep_univ_sum, big_bool,
    show (bigSep Finset.univ fun a : Unit => semVal (c.tc, osem (.inl a)) 0 : sProp 𝕄) = semVal (cell c kFin) 0 from
      bigSep_univ_eq_bigSepL [()] (by decide) (by decide) _]
  exact sep_turn _ _ _

/-- A device's cells opened. -/
theorem core_open (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Key => iprop(∃ κ : ℕ, cellInv ER (Rd m ρ) κ (cell c k)))
          ∗ (bigSep Finset.univ fun k : Key => atPos ER (cell c k) 0 ∅ 0) ∗ (bigSep Finset.univ fun k : Key => reached ER (cell c k) 0)
          ∗ bigSep Finset.univ fun j => tok c j) := by
  unfold G
  iintro ⟨Hos, Hus, Hst, Hat, Hr, Htok⟩
  ihave Hv := (Entails.of_eq (sems_eq (F := F) c)) $$ [Hos Hus]
  · isplitl [Hos] <;> iassumption
  imod (show iprop(zeros c ∗ bigSep Finset.univ fun k : Key => roundState ER (Rd m ρ) (cell c k) 0)
      ⊢ (|={Set.univ}=> bigSep Finset.univ fun k : Key => iprop(∃ κ : ℕ, cellInv ER (Rd m ρ) κ (cell c k)) : sProp 𝕄) from by
        unfold zeros
        rw [← bigSep_sep']
        exact (bigSep_mono fun k _ => (Rounds.body_intro ER (Rd m ρ) (cell c k)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- All invariants and that each cell is at its round. -/
def records (K : Dev nD × Key → ℕ) : sProp 𝕄 :=
  iprop((bigSep Finset.univ fun ck : Dev nD × Key => cellInv ER (Rd m ρ) (K ck) (cell ck.1 ck.2))
    ∗ bigSep Finset.univ fun ck : Dev nD × Key => reached ER (cell ck.1 ck.2) 0)
instance records_persistent (K : Dev nD × Key → ℕ) : BI.Persistent (records m ρ K) := by unfold records; infer_instance

/-- What a device has once all cells are open. -/
def G' (c : Dev nD) : sProp 𝕄 :=
  iprop(∃ K, records m ρ K ∗ (bigSep Finset.univ fun k : Key => atPos ER (cell c k) 0 ∅ 0) ∗ payToks c)

/-- A fact that may be copied, handed to every member of a family. -/
theorem big_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Key => iprop(∃ κ : ℕ, cellInv ER (Rd m ρ) κ (cell c k)))
          ∗ (bigSep Finset.univ fun k : Key => atPos ER (cell c k) 0 ∅ 0) ∗ (bigSep Finset.univ fun k : Key => reached ER (cell c k) 0)
          ∗ bigSep Finset.univ fun j => tok c j) : sProp 𝕄)
      ⊢ bigSep Finset.univ (G' m ρ) := by
  rw [bigSep_sep', bigSep_sep', bigSep_sep', toks_dealt,
    ← bigSep_univ_prod (fun ck : Dev nD × Key => iprop(∃ κ : ℕ, cellInv ER (Rd m ρ) κ (cell ck.1 ck.2))),
    ← bigSep_univ_prod (fun ck : Dev nD × Key => (reached ER (cell ck.1 ck.2) 0 : sProp 𝕄))]
  iintro ⟨HI, Hat, #HR, Htok⟩
  ihave HK := (BI.bigSep_exists_pi Finset.univ (fun (ck : Dev nD × Key) (κ : ℕ) => (cellInv ER (Rd m ρ) κ (cell ck.1 ck.2) : sProp 𝕄))) $$ HI
  icases HK with ⟨%K, #HI⟩
  iapply (big_with (R := records m ρ K)
    (Φ := fun c : Dev nD => iprop((bigSep Finset.univ fun k : Key => atPos ER (cell c k) 0 ∅ 0) ∗ payToks c)) fun c _ => by
      unfold G'
      iintro ⟨HR, H⟩
      iexists K
      isplitl [HR] <;> iassumption)
  isplitr
  · unfold records; isplitl; · iexact HI
    iexact HR
  rw [bigSep_sep']
  isplitl [Hat] <;> iassumption

/-- All cells of all devices opened at once. -/
theorem open_all : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_open m ρ c).trans (bigSep_fupd _ _)).trans (BI.fupd_mono (regroup m ρ))

/-! ## The claims -/

/-- What the others owe a cell. -/
def creditK : Key → ℕ
  | .inl _ => 3
  | .inr (false, _) => 0
  | .inr (true, t) => NN t.1

/-- The devices across a mask owe a cell of `c` what one of them owes it. -/
theorem sum_across (q : Fin 8) (c : Dev nD) (k k' : Key) (n : ℕ) :
    ∑ d : Dev nD, (tallyAt (cell (peer q d) k') () n : CellTallies nD τ sig Unit) (cell c k) () = if k = k' then n else 0 := by
  rw [← Equiv.sum_comp (across q)]
  have h : ∀ d : Dev nD, (tallyAt (cell (peer q (across q d)) k') () n : CellTallies nD τ sig Unit) (cell c k) ()
      = if d = c then (if k = k' then n else 0) else 0 := fun d => by
    show (tallyAt (cell (peer q (peer q d)) k') () n : CellTallies nD τ sig Unit) (cell c k) () = _
    rw [peer_peer, tallyAt_apply]
    by_cases hd : d = c
    · subst hd
      by_cases hk : k = k'
      · subst hk; rw [if_pos ⟨rfl, rfl⟩, if_pos rfl, if_pos rfl]
      · rw [if_neg (fun h => hk (key_of_cell h.1)), if_pos rfl, if_neg hk]
    · rw [if_neg (fun h => hd (dev_of_cell h.1).symm), if_neg hd]
  rw [Finset.sum_congr rfl fun d _ => h d, Finset.sum_ite_eq' Finset.univ c, if_pos (Finset.mem_univ _)]

theorem sum_meet (b : Bool) (c : Dev nD) (k : Key) : ∑ d : Dev nD, owesMeet b d (cell c k) () = if k = .inl b then 3 else 0 := by
  unfold owesMeet
  simp only [Finset.sum_apply, Finsupp.finsetSum_apply]
  rw [Finset.sum_comm, Finset.sum_congr rfl fun δ _ => sum_across (mk δ) c k (.inl b) 1, Finset.sum_const]
  split <;> rfl

theorem sum_transfers (c : Dev nD) (k : Key) : ∑ d : Dev nD, owesT Finset.univ d (cell c k) () = ∑ t : T, if k = kR t then NN t.1 else 0 := by
  unfold owesT
  simp only [Finset.sum_apply, Finsupp.finsetSum_apply]
  rw [Finset.sum_comm]
  exact Finset.sum_congr rfl fun t _ => sum_across (msk t.1 t.2) c k (kR t) (NN t.1)

theorem owed_cell (c : Dev nD) (k : Key) : ∑ d : Dev nD, O₀ d (cell c k) () = creditK k := by
  unfold O₀ owesB
  simp only [Pi.add_apply, Finsupp.add_apply]
  rw [Finset.sum_add_distrib, Finset.sum_add_distrib, sum_transfers, sum_meet, sum_meet]
  have hz : ∀ b : Bool, ∑ t : T, (if (Sum.inl b : Key) = kR t then NN t.1 else 0) = 0 := fun b =>
    Finset.sum_eq_zero fun t _ => if_neg (fun h => by cases h)
  have hs : ∀ t' : T, ∑ t : T, (if kS t' = kR t then NN t.1 else 0) = 0 := fun t' =>
    Finset.sum_eq_zero fun t _ => if_neg (fun h => by cases h)
  have hr : ∀ t' : T, ∑ t : T, (if kR t' = kR t then NN t.1 else 0) = NN t'.1 := fun t' => by
    rw [Finset.sum_congr rfl fun t _ => if_congr (show (kR t' = kR t) ↔ (t' = t) from ⟨fun h => by cases h; rfl, fun h => h ▸ rfl⟩) rfl rfl,
      Finset.sum_ite_eq Finset.univ t', if_pos (Finset.mem_univ _)]
  match k with
  | .inl false => rw [hz]; rfl
  | .inl true => rw [hz]; rfl
  | .inr (false, t') => rw [hs]; rfl
  | .inr (true, t') => rw [hr]; rfl

theorem launch_cell (c : Dev nD) (k : Key) :
    tallyOn (cell c k) (launchCredit (Pipeline.owing O₀) 0 (cell c k)) = (tallyAt (cell c k) () (creditK k) : CellTallies nD τ sig Unit) := by
  unfold tallyAt; refine congrArg _ (Finsupp.ext fun u => ?_); cases u
  rw [Pipeline.launchCredit_owing, Finsupp.single_eq_same, owed_cell]

theorem creds_intro (c : Dev nD) : (Pipeline.launchCred O₀ c : sProp 𝕄) ⊢ creds c := by
  unfold Pipeline.launchCred
  have h1 : (bigSep (Finset.univ.map ⟨csem, csem_inj⟩) fun sm : SemLoc sig => cred (tallyOn ((c.tc : Thread nD τ), sm) (launchCredit (Pipeline.owing O₀) 0 ((c.tc : Thread nD τ), sm))) : sProp 𝕄)
      = bigSep Finset.univ fun k : Key => cred (tallyAt (cell c k) () (creditK k)) := by
    rw [bigSep_map]
    exact bigSep_congr fun k _ => congrArg _ (launch_cell c k)
  iintro H
  ihave H := (big_sub (Finset.subset_univ (Finset.univ.map ⟨csem, csem_inj⟩)) _) $$ H
  ihave H := (Entails.of_eq (h1.trans (big_key _))) $$ H
  unfold creds
  icases H with ⟨⟨H1, H2⟩, -, H3⟩
  isplitl [H1]; · iexact H1
  isplitl [H2]; · iexact H2
  iexact H3

end Cert.Moe
end
-- ==== Proof.Launch.lean ====
/- The launch: every device runs the body, and the whole run ends with the result computed and nothing left pending. -/
module

public import proofs.«01_k».proof.Proof.Deal
public import Idealize.ShloMosaic.Lib.Pipeline.CollectiveSegs

@[expose] public section

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What is staged -/

/-- A device's tokens, the router and the routing indices as staged. -/
def xst (c : Dev nD) : (cc0_stg0_0 : Ref sig .tc).ty.Contents (Elt F) :=
  (win0_0.blk (0 : Fin 1)).view.read (Elt F) ((s₀ m ρ).mem ((c : Thread nD τ).loc main_arg0))
def rst (c : Dev nD) : (cc0_stg1_0 : Ref sig .tc).ty.Contents (Elt F) :=
  (win0_1.blk (0 : Fin 1)).view.read (Elt F) ((s₀ m ρ).mem ((c : Thread nD τ).loc main_arg1))
def ist (c : Dev nD) : (cc0_stg2_0 : Ref sig .tc).ty.Contents (Elt F) :=
  (win0_2.blk (0 : Fin 1)).view.read (Elt F) ((s₀ m ρ).mem ((c : Thread nD τ).loc main_arg2))

/-- What a device computes. -/
def outAt (c : Dev nD) : (cc0_stg4_0 : Ref sig .tc).ty.Contents (Elt F) := outOf m ρ c (xst m ρ c) (rst m ρ c) (ist m ρ c)

/-! ## Before and after the body -/

/-- Before: the protocol's ghost state and the claims; the gather arrays at any contents. -/
def start (c : Dev nD) : sProp 𝕄 := iprop((∃ K, ghost m ρ K c) ∗ creds c)
def Φ₀ (c : Dev nD) : sProp 𝕄 := iprop(start m ρ c ∗ bigSep Finset.univ (scrAny c))

/-- The proof data of the launch: one point, five windows. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => rst m ρ c
    | ⟨2, _⟩ => ist m ρ c
    | ⟨3, _⟩ => wst m ρ c
    | ⟨4, _⟩ => outAt m ρ c
  Φ t := match t with
    | ⟨0, _⟩ => Φ₀ m ρ c
    | ⟨_ + 1, _⟩ => leaves m ρ c
  q _ := fullShare
  owed t := match t with
    | ⟨0, _⟩ => O₀ c
    | ⟨_ + 1, _⟩ => 0

theorem big_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

theorem fetched (t : Fin cfg0.N) : (cfg0.win (0 : Fin 5)).fetch t = true ∧ (cfg0.win (1 : Fin 5)).fetch t = true
    ∧ (cfg0.win (2 : Fin 5)).fetch t = true ∧ (cfg0.win (3 : Fin 5)).fetch t = true := by
  rw [show t = t0_0 from fin_N0 t]; exact ⟨rfl, rfl, rfl, rfl⟩

/-- A whole buffer held at contents `X`. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns; simp only [Memref.view_whole, View.read_whole, View.set_whole]

def bodyPre (c : Dev nD) : sProp 𝕄 :=
  iprop(Φ₀ m ρ c ∗ (dats m ρ 0 c).owesAt () t0_0.castSucc
    ∗ (∃ d, held c cc0_stg0_0 ((dats m ρ 0 c).before (0 : Fin 5) t0_0 d))
    ∗ (∃ d, held c cc0_stg1_0 ((dats m ρ 0 c).before (1 : Fin 5) t0_0 d))
    ∗ (∃ d, held c cc0_stg2_0 ((dats m ρ 0 c).before (2 : Fin 5) t0_0 d))
    ∗ (∃ d, held c cc0_stg3_0 ((dats m ρ 0 c).before (3 : Fin 5) t0_0 d))
    ∗ (∃ d, held c cc0_stg4_0 ((dats m ρ 0 c).before (4 : Fin 5) t0_0 d)))

def bodyPost (c : Dev nD) : sProp 𝕄 :=
  iprop(leaves m ρ c ∗ (dats m ρ 0 c).owesAt () t0_0.succ
    ∗ held c cc0_stg0_0 (xst m ρ c) ∗ held c cc0_stg1_0 (rst m ρ c) ∗ held c cc0_stg2_0 (ist m ρ c)
    ∗ held c cc0_stg3_0 (wst m ρ c) ∗ held c cc0_stg4_0 (outAt m ρ c))

theorem before_0 (c : Dev nD) (d) : (dats m ρ 0 c).before (0 : Fin 5) t0_0 d = xst m ρ c := by
  unfold Dat.before; rw [if_pos (fetched t0_0).1]; rfl
theorem before_1 (c : Dev nD) (d) : (dats m ρ 0 c).before (1 : Fin 5) t0_0 d = rst m ρ c := by
  unfold Dat.before; rw [if_pos (fetched t0_0).2.1]; rfl
theorem before_2 (c : Dev nD) (d) : (dats m ρ 0 c).before (2 : Fin 5) t0_0 d = ist m ρ c := by
  unfold Dat.before; rw [if_pos (fetched t0_0).2.2.1]; rfl
theorem before_3 (c : Dev nD) (d) : (dats m ρ 0 c).before (3 : Fin 5) t0_0 d = wst m ρ c := by
  unfold Dat.before; rw [if_pos (fetched t0_0).2.2.2]; rfl

/-- The body between the two. -/
theorem body_run (c : Dev nD) : bodyPre m ρ c ⊢ wpc c (bodyAt (F := F)) (fun _ => bodyPost m ρ c) := by
  rw [body_eq]
  unfold bodyPre Φ₀ start
  iintro ⟨⟨⟨⟨%K, Hg⟩, Hc⟩, Hscr⟩, Ho, ⟨%d0, %g0, %h0, Hx⟩, ⟨%d1, %g1, %h1, Hr⟩, ⟨%d2, %g2, %h2, Hi⟩, ⟨%d3, %g3, %h3, Hw⟩, ⟨%d4, %g4, %h4, Hout⟩⟩
  rw [before_0] at h0; rw [before_1] at h1; rw [before_2] at h2; rw [before_3] at h3
  subst h0 h1 h2 h3
  unfold Dat.owesAt Pipeline.owesWithin
  icases Ho with ⟨%W, %hW, HO⟩
  rw [show (dats m ρ 0 c).owed t0_0.castSucc = O₀ c from rfl]
  iapply (wp_text m ρ K c (xst m ρ c) (rst m ρ c) (ist m ρ c) g4 W (fun _ => bodyPost m ρ c)) $$ [Hg Hc Hscr HO Hx Hr Hi Hw Hout]
  · isplitl [Hg]; · iexact Hg
    isplitl [Hc]; · iexact Hc
    isplitl [Hscr]; · iexact Hscr
    isplitl [HO]; · iexact HO
    isplitl [Hx]; · iexact Hx
    isplitl [Hr]; · iexact Hr
    isplitl [Hi]; · iexact Hi
    isplitl [Hw]; · unfold wPts; iexact Hw
    unfold outPts; iexact Hout
  iintro ⟨⟨Hl, %W', HO⟩, Hx, Hr, Hi, Hw, Hout⟩
  unfold bodyPost Dat.owesAt Pipeline.owesWithin
  rw [show (dats m ρ 0 c).owed t0_0.succ = 0 from rfl]
  isplitl [Hl]; · iexact Hl
  isplitl [HO]
  · iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [Hw]
  · iexists _; isplitr; · (ipureintro; rfl)
    unfold wPts; iexact Hw
  iexists _; isplitr; · (ipureintro; rfl)
  unfold outPts; iexact Hout

set_option maxRecDepth 200000 in
/-- What the launch asks of the body. -/
theorem body_obligation (c : Dev nD) : BodyObligation (dats (F := F) m ρ 0 c) (defs₀ (F := F)) 𝒱₀ () Set.univ := fun t => by
  rw [show t = t0_0 from fin_N0 t]
  rw [big_W, big_W]
  simp only [owns_held]
  exact body_run m ρ c

/-! ## The side conditions of the launch -/

theorem ownSemFacts : Pipeline.OwnSemFacts cfg0.spec osem := by decide +kernel

theorem share_full (c : Dev nD) (w : Fin cfg0.W) : (dats m ρ 0 c).share w = fullShare := by unfold Dat.share; split <;> rfl

theorem scr_rest (c : Dev nD) : (Pipeline.scopedRest (Ix := Unit) (Name := ℕ) (U := UU) (Lvl := ℕ) (Val := Elt F) cfg0.spec c : sProp 𝕄)
    = bigSep Finset.univ (scrAny c) := by
  rw [big_three, scopedRest0_eq]; rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' records
  iintro ⟨-, Hlev, Hcr, -, ⟨%K, ⟨HI, HR⟩, Hat, Htok⟩⟩
  ihave Hc := (creds_intro (F := F) c) $$ Hcr
  imodintro
  unfold start ghost ctx
  isplitl
  · isplitr [Hc]
    · iexists K
      isplitl [HI HR Hlev]
      · isplitl [HI]; · iexact HI
        isplitl [HR] <;> iassumption
      isplitl [Hat] <;> iassumption
    iexact Hc
  iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scr_rest]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = leaves m ρ c from rfl, scr_rest]
  unfold leaves
  iintro ⟨Hr, Hz⟩
  ihave Hz := (Entails.of_eq (sems_eq (F := F) c).symm) $$ Hz
  icases Hz with ⟨Hown, Hun⟩
  isplitl [Hun]; · iexact Hun
  isplitl [Hown]; · iexact Hown
  iapply (big_mono (s := (Finset.univ : Finset (Fin 3))) (Φ := scrFull m ρ c) (Ψ := scrAny c) fun a _ => by
    unfold scrFull scrAny
    iintro H
    iexists _; iexact H)
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- What the arrays of the windows end as. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- From any memory with all counters zero and for any float values, every fair run of the eight devices ends, with the
    windows' arrays at their final contents and every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := open_all m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input window's array ends as it was. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.Moe
end
-- ==== Proof.Frames.lean ====
/- The frames of the kernel and of the reference: every run ends, the arguments are unchanged, every counter reads zero. -/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Moe

open Idealize.ShloMosaic Idealize.ShloMosaic.TcCoe
open Idealize.SL.Sem
open Cert.KernelIdeal Cert.KernelIdeal.Gen

variable {F : FTy → Type} [FloatOps F]

/-- A device's four argument arrays in a state of the kernel read as in the memory `m`. -/
def argsKept (m : (ℓ : Loc nD τ sig) → Buf (Elt F) ℓ) (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)

/-- The final state of the launch has the arguments as they were. -/
theorem args_kept (m : (ℓ : Loc nD τ sig) → Buf (Elt F) ℓ) (ρ : Dev nD → PrngReg) {r} (h : QC m ρ r) (c : Dev nD) : argsKept m r.2 c :=
  ⟨(h c (0 : Fin 5)).trans (finalA_in m ρ c (0 : Fin 5) rfl), (h c (1 : Fin 5)).trans (finalA_in m ρ c (1 : Fin 5) rfl),
    (h c (2 : Fin 5)).trans (finalA_in m ρ c (2 : Fin 5) rfl), (h c (3 : Fin 5)).trans (finalA_in m ρ c (3 : Fin 5) rfl)⟩

/-- From any memory with zero counters, over any float values, the kernel's run ends with the arguments unchanged and
    every counter zero. -/
theorem kernel_frame (m : (ℓ : Loc nD τ sig) → Buf (Elt F) ℓ) (ρ : Dev nD → PrngReg) :
    θ_run defs (onTc (τ := τ) (main (F := F))) ⟨m, fun _ => 0, ρ⟩ (fun r => (∀ c, argsKept m r.2 c) ∧ r.2.sem = fun _ => 0) :=
  (θ_run defs _ _).mono (fun _ h => ⟨args_kept m ρ h.1, h.2⟩) (run_main m ρ)

attribute [local instance] Cert.Kernel.Gen.facts Cert.KernelIdeal.Gen.facts Cert.ReferenceIdeal.Gen.facts

/-- The kernel over the exact values. -/
theorem frame_ideal : Cert.quiescent_KernelIdeal := fun m ρ _ => kernel_frame (F := Ideal) m ρ

set_option maxRecDepth 100000 in
/-- The kernel as printed and the kernel as idealized have the same body. -/
theorem bodies_same : Cert.Kernel.defs₀ (F := Bits) = defs₀ (F := Bits) := by
  unfold Cert.Kernel.defs₀ defs₀
  refine congrArg (Defs.onTc (nD := nD) (τ := τ) (sig := sig) (Val := Elt Bits) (Λ := Λ₀)) ?_
  funext l x
  match l, x with
  | 0, (t, s) => rfl

/-- So they have the same table of functions. -/
theorem tables_same : Cert.Kernel.defs (F := Bits) = defs (F := Bits) := congrArg (Pipeline.defs (pcfgs (F := Bits))) bodies_same

/-- The kernel over the machine's values: its text is the same, so its run is the run above. -/
theorem frame_kernel : Cert.quiescent_Kernel := fun m ρ _ => by
  rw [tables_same]
  exact kernel_frame (F := Bits) m ρ

/-- The reference: its operations leave its arguments alone, and it has no semaphore. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run m ρ)

end Cert.Moe
end
-- ==== Proof.Given.lean ====
/- What the precondition says of a device's arrays: the tokens and the router hold real numbers, the routing indices lie in 0..31. -/
module

public import proofs.«01_k».proof.Defs
public import Idealize.ShloMosaic.Lib.ReduceAll
public import Idealize.ShloMosaic.Lib.Affine
public import Idealize.ShloMosaic.Lib.Pointwise

@[expose] public section

noncomputable section

namespace Cert.Moe

open Idealize.ShloMosaic

/-- The side conditions the precondition states over a device's arrays hold. -/
theorem given_facts : Cert.Pre_routed_KernelIdeal.Facts where
  bitsLt_bf16_f32 := by decide
  bcast_S_S1024x512 := by decide
  reducesTo_S1024x512_S_d0_1 := by decide
  h_S_ := by decide
  bcast_S_S512x32 := by decide
  reducesTo_S512x32_S_d0_1 := by decide
  bcast_S_S1024x2 := by decide
  reducesTo_S1024x2_S_d0_1 := by decide

/-- The side conditions the precondition states over the whole arrays hold. -/
theorem given_facts_whole : Cert.Pre_routed_ReferenceIdeal.Facts where
  bitsLt_bf16_f32 := by decide
  bcast_S_S8192x512 := by decide
  reducesTo_S8192x512_S_d0_1 := by decide
  h_S_ := by decide
  bcast_S_S512x32 := by decide
  reducesTo_S512x32_S_d0_1 := by decide
  bcast_S_S8192x2 := by decide
  reducesTo_S8192x2_S_d0_1 := by decide

/-- An extended real is a real number. -/
def IsReal (a : EReal) : Prop := ∃ v : ℝ, a = (v : EReal)

/-- The pattern of plus infinity denotes it. -/
theorem inf_bits : Ideal.ofBits .f32 0x7F800000#32 = ⊤ := by simp [Ideal.ofBits, Ideal.ieee]

/-- A value whose magnitude is below infinity is real. -/
theorem real_of_abs {a : EReal} (h : Ideal.cmp .olt (max a (-a)) ⊤ = 1#1) : IsReal a := by
  induction a with
  | bot => simp [Ideal.cmp] at h
  | top => simp [Ideal.cmp] at h
  | coe v => exact ⟨v, rfl⟩

/-- A word that is at least 0 and less than 32, read as a signed number, is below 32 read as an unsigned one. -/
theorem word_lt {b : BitVec 32} (h0 : (0#32).toInt ≤ b.toInt) (h1 : b.toInt < (32#32).toInt) : b.toNat < 32 := by
  have e0 : (0#32 : BitVec 32).toInt = 0 := by decide
  have e1 : (32#32 : BitVec 32).toInt = 32 := by decide
  have hb := b.isLt
  rw [e0] at h0; rw [e1] at h1
  rw [BitVec.toInt_eq_toNat_cond] at h0 h1
  split at h0 <;> omega

attribute [local instance] given_facts

/-- The precondition of one device's arrays, read back. -/
theorem given_of {x : FVec Ideal ⟨2, ![1024, 512]⟩ .bf16} {r : FVec Ideal ⟨2, ![512, 32]⟩ .bf16} {i : IVec ⟨2, ![1024, 2]⟩ 32}
    {w : FVec Ideal ⟨3, ![4, 512, 1024]⟩ .bf16} (h : Cert.Pre_routed_KernelIdeal.fn (F := Ideal) x r i w = fun _ => 1#1) :
    (∀ j, IsReal (x j)) ∧ (∀ j, IsReal (r j)) ∧ ∀ j, (i j).toNat < 32 := by
  haveI : Subsingleton (Shape.Idx (⟨0, ![]⟩ : Shape)) := ⟨fun a b => funext fun k => k.elim0⟩
  have h := congrFun h (fun k => k.elim0)
  unfold Cert.Pre_routed_KernelIdeal.fn Cert.Pre_routed_KernelIdeal.fn_part1 at h
  obtain ⟨h, hi⟩ := IntOp.andi_eq_one.1 h
  obtain ⟨hx, hr⟩ := IntOp.andi_eq_one.1 h
  refine ⟨fun j => ?_, fun j => ?_, fun j => ?_⟩
  · have := Host.reduce_andi_all _ _ _ _ _ hx j
    exact real_of_abs (by rw [← inf_bits]; exact this)
  · have := Host.reduce_andi_all _ _ _ _ _ hr j
    exact real_of_abs (by rw [← inf_bits]; exact this)
  · obtain ⟨h0, h1⟩ := IntOp.andi_eq_one.1 (Host.reduce_andi_all _ _ _ _ _ hi j)
    exact word_lt (IntOp.cmpi_sge.1 h0) (IntOp.cmpi_slt.1 h1)

end Cert.Moe
end
-- ==== Proof.Weights.lean ====
/- The mathematics of the weights and of the products, over the extended reals.

   The kernel weighs the two chosen experts by a softmax of their two scores; the reference takes the softmax over all
   experts and then divides by the two chosen ones' sum. Over real scores both are `portion`. A weight is a nonnegative
   real, so it moves in and out of a sum whatever the sum's terms are. -/
module

public import proofs.«01_k».proof.Proof.Given

@[expose] public section

noncomputable section

namespace Cert.Moe

open Idealize.ShloMosaic

/-- The weight of the first of two experts with scores `a` and `b`. -/
def portion (a b : ℝ) : ℝ := Real.exp a / (Real.exp a + Real.exp b)

theorem portion_nonneg (a b : ℝ) : 0 ≤ portion a b := by unfold portion; positivity

/-- The quotient of two reals, the second not zero. -/
theorem div_real {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The exponential of the difference of two reals. -/
theorem exp_sub_real (a b : ℝ) : Ideal.exp ((a : EReal) - (b : EReal)) = ((Real.exp (a - b) : ℝ) : EReal) := by
  rw [← EReal.coe_sub]; rfl

/-- The softmax of two scores, whatever real is subtracted from both. -/
theorem two_way (a b M : ℝ) :
    Ideal.div (Ideal.exp ((a : EReal) - M)) (Ideal.exp ((a : EReal) - M) + Ideal.exp ((b : EReal) - M)) = (portion a b : EReal) := by
  have hp : Real.exp (a - M) + Real.exp (b - M) ≠ 0 := by positivity
  rw [exp_sub_real, exp_sub_real, ← EReal.coe_add, div_real hp]
  congr 1
  unfold portion
  have h1 := Real.exp_pos a
  have h2 := Real.exp_pos b
  have h3 := Real.exp_pos M
  rw [Real.exp_sub, Real.exp_sub]
  field_simp

/-- The largest of finitely many reals is real, or there are none. -/
theorem fold_max_real {ι : Type} [DecidableEq ι] (S : ι → EReal) (h : ∀ k, IsReal (S k)) (s : Finset ι) (hs : s.Nonempty) :
    IsReal (s.fold max ⊥ S) := by
  induction s using Finset.induction_on with
  | empty => exact absurd hs Finset.not_nonempty_empty
  | insert a s ha ih =>
    rw [Finset.fold_insert ha]
    obtain ⟨v, hv⟩ := h a
    rcases s.eq_empty_or_nonempty with rfl | hne
    · exact ⟨v, by rw [Finset.fold_empty, hv]; exact max_eq_left bot_le⟩
    · obtain ⟨u, hu⟩ := ih hne
      rw [hv, hu]
      rcases max_choice (v : EReal) (u : EReal) with e | e
      · exact ⟨v, e⟩
      · exact ⟨u, e⟩

/-- A finite sum of reals is real. -/
theorem sum_real {ι : Type} (s : Finset ι) (f : ι → EReal) (g : ι → ℝ) (h : ∀ k, f k = (g k : EReal)) :
    ∑ k ∈ s, f k = ((∑ k ∈ s, g k : ℝ) : EReal) := by
  classical
  induction s using Finset.induction_on with
  | empty => rfl
  | insert a s ha ih => rw [Finset.sum_insert ha, Finset.sum_insert ha, ih, h a, EReal.coe_add]

/-- A softmax over all experts, renormalised to two of them, is the softmax of those two. -/
theorem renormalised {ι : Type} [Fintype ι] (S : ι → EReal) (s : ι → ℝ) (hS : ∀ k, S k = (s k : EReal)) (M : EReal) (hM : IsReal M)
    (e f : ι) :
    Ideal.div (Ideal.div (Ideal.exp (S e - M)) (0 + ∑ k, Ideal.exp (S k - M)))
      (Ideal.div (Ideal.exp (S e - M)) (0 + ∑ k, Ideal.exp (S k - M)) + Ideal.div (Ideal.exp (S f - M)) (0 + ∑ k, Ideal.exp (S k - M)))
      = (portion (s e) (s f) : EReal) := by
  obtain ⟨v, rfl⟩ := hM
  have hsum : (0 : EReal) + ∑ k, Ideal.exp (S k - v) = ((∑ k, Real.exp (s k - v) : ℝ) : EReal) := by
    rw [zero_add]; exact sum_real _ _ _ fun k => by rw [hS k, exp_sub_real]
  have hpos : 0 < ∑ k, Real.exp (s k - v) := Finset.sum_pos (fun k _ => Real.exp_pos _) ⟨e, Finset.mem_univ _⟩
  have he := Real.exp_pos (s e)
  have hf := Real.exp_pos (s f)
  have hv := Real.exp_pos v
  have hD : Real.exp (s e - v) / (∑ k, Real.exp (s k - v)) + Real.exp (s f - v) / (∑ k, Real.exp (s k - v)) ≠ 0 := by positivity
  rw [hsum, hS e, hS f, exp_sub_real, exp_sub_real, div_real hpos.ne', div_real hpos.ne', ← EReal.coe_add, div_real hD]
  congr 1
  generalize ∑ k, Real.exp (s k - v) = D at *
  unfold portion
  rw [Real.exp_sub, Real.exp_sub]
  field_simp

/-- A nonnegative real moves into a sum. -/
theorem mul_sum_real {ι : Type} (s : Finset ι) (w : ℝ) (hw : 0 ≤ w) (f : ι → EReal) :
    (w : EReal) * ∑ k ∈ s, f k = ∑ k ∈ s, (w : EReal) * f k := by
  classical
  induction s using Finset.induction_on with
  | empty => simp
  | insert a s ha ih =>
    rw [Finset.sum_insert ha, Finset.sum_insert ha,
      EReal.left_distrib_of_nonneg_of_ne_top (by exact_mod_cast hw) (EReal.coe_ne_top w), ih]

/-- A weighted sum of products is the weight of the sum of products. -/
theorem scaled_sum {ι : Type} [Fintype ι] (w : ℝ) (hw : 0 ≤ w) (x y : ι → EReal) :
    ∑ k, (w : EReal) * x k * y k = (w : EReal) * ∑ k, x k * y k := by
  rw [mul_sum_real _ w hw]
  exact Finset.sum_congr rfl fun k _ => mul_assoc _ _ _

/-- Every expert at the weight a token gives it — its two choices' weights, zero for the others — is the two choices
    at theirs. -/
theorem routed_sum (u v : ℝ) (hu : 0 ≤ u) (hv : 0 ≤ v) (e f : Fin 32) (Y : Fin 32 → EReal) :
    ∑ k, (((if e = k then u else 0) + (if f = k then v else 0) : ℝ) : EReal) * Y k = (u : EReal) * Y e + (v : EReal) * Y f := by
  have h : ∀ k, (((if e = k then u else 0) + (if f = k then v else 0) : ℝ) : EReal) * Y k
      = (if e = k then (u : EReal) * Y k else 0) + (if f = k then (v : EReal) * Y k else 0) := by
    intro k
    have h1 : (0 : ℝ) ≤ if e = k then u else 0 := by split <;> simp [hu]
    have h2 : (0 : ℝ) ≤ if f = k then v else 0 := by split <;> simp [hv]
    rw [EReal.coe_add, EReal.right_distrib_of_nonneg (by exact_mod_cast h1) (by exact_mod_cast h2)]
    congr 1 <;> split <;> simp
  rw [Finset.sum_congr rfl fun k _ => h k, Finset.sum_add_distrib, Finset.sum_ite_eq, Finset.sum_ite_eq]
  simp

end Cert.Moe
end
-- ==== Proof.Tokens.lean ====
/- What one device computes from its tokens, read at an index: the scores, the two weights, the scaled tokens, one product. -/
module

public import proofs.«01_k».proof.Proof.Text
public import proofs.«01_k».proof.Proof.Weights
public import Idealize.ShloMosaic.Lib.MatmulPlain
public import Idealize.ShloMosaic.Lib.ValueLayout

@[expose] public section

noncomputable section

namespace Cert.Moe

open Idealize.ShloMosaic Idealize.ShloMosaic.TcCoe
open Cert.KernelIdeal Cert.KernelIdeal.Gen

/-- A choice between two values by the equality of two words. -/
theorem select_word {φ : FTy} (a b : BitVec 32) (u v : Ideal φ) :
    Scalar.select (IntOp.cmpi .eq a b) u v = if a = b then u else v := by
  by_cases h : a = b
  · exact (if_pos (IntOp.cmpi_eq.2 h)).trans (if_pos h).symm
  · exact (if_neg (fun h' => h (IntOp.cmpi_eq.1 h'))).trans (if_neg h).symm

/-- The word of a small number is a given word exactly when the numbers are equal. -/
theorem word_eq_iff (a : ℕ) (b : BitVec 32) (ha : a < 32) : BitVec.ofNat 32 a = b ↔ a = b.toNat := by
  constructor
  · rintro rfl; rw [BitVec.toNat_ofNat, Nat.mod_eq_of_lt (by omega)]
  · rintro rfl; exact BitVec.ofNat_toNat _ _ |>.trans (BitVec.setWidth_eq _)

/-- The score of a token for an expert. -/
def score {N : ℕ} (x : FVec Ideal ⟨2, ![N, 512]⟩ .bf16) (r : FVec Ideal ⟨2, ![512, 32]⟩ .bf16) (n : Fin N) (e : Fin 32) : EReal :=
  ∑ k : Fin 512, x (ix2 n k) * r (ix2 k e)

/-- The same sum taken over the reals the arrays hold. -/
def scoreR {N : ℕ} (x : FVec Ideal ⟨2, ![N, 512]⟩ .bf16) (r : FVec Ideal ⟨2, ![512, 32]⟩ .bf16) (n : Fin N) (e : Fin 32) : ℝ :=
  ∑ k : Fin 512, EReal.toReal (x (ix2 n k)) * EReal.toReal (r (ix2 k e))

theorem score_real {N : ℕ} (x : FVec Ideal ⟨2, ![N, 512]⟩ .bf16) (r : FVec Ideal ⟨2, ![512, 32]⟩ .bf16)
    (hx : ∀ j, IsReal (x j)) (hr : ∀ j, IsReal (r j)) (n : Fin N) (e : Fin 32) : score x r n e = (scoreR x r n e : EReal) := by
  refine sum_real _ _ _ fun k => ?_
  obtain ⟨u, hu⟩ := hx (ix2 n k)
  obtain ⟨v, hv⟩ := hr (ix2 k e)
  rw [hu, hv, EReal.toReal_coe, EReal.toReal_coe, EReal.coe_mul]

/-- A token's product with an expert, at a column. -/
def yield {N : ℕ} (x : FVec Ideal ⟨2, ![N, 512]⟩ .bf16) (W : Fin 512 → EReal) (n : Fin N) : EReal := ∑ k : Fin 512, x (ix2 n k) * W k

section
variable (x : Vec Ideal S1024x512 .bf16) (r : Vec Ideal S512x32 .bf16) (i i0 i1 : Vec Ideal S1024x1 .i32)

theorem scores_at (n : Fin 1024) (e : Fin 32) : scores x r (ix2 n e) = score x r n e := by
  pointwise [scores, xv, score]

/-- The masked sum of a token's scores is the score of the expert its index column picks. -/
theorem pick_at (n : Fin 1024) (e : Fin 32) (h : (i (ix2 n 0)).toNat = e.val) : pick x r i (ix2 n 0) = score x r n e := by
  pointwise [pick]
  rw [Finset.sum_eq_single e]
  · rw [select_word, if_pos ((word_eq_iff _ _ e.isLt).2 h.symm), scores_at]
  · intro k _ hk
    rw [select_word, if_neg fun hw => hk (Fin.ext (((word_eq_iff _ _ k.isLt).1 hw).trans h))]
  · intro hk; exact absurd (Finset.mem_univ _) hk

variable (hx : ∀ j, IsReal (x j)) (hr : ∀ j, IsReal (r j))
include hx hr

/-- The two weights of a token are its two experts' portions. -/
theorem w0_at (n : Fin 1024) (e f : Fin 32) (he : (i0 (ix2 n 0)).toNat = e.val) (hf : (i1 (ix2 n 0)).toNat = f.val) :
    w0 x r i0 i1 (ix2 n 0) = (portion (scoreR x r n e) (scoreR x r n f) : EReal) := by
  pointwise [w0, ex0, ex1]
  rw [pick_at x r i0 n e he, pick_at x r i1 n f hf, score_real x r hx hr, score_real x r hx hr]
  rcases max_choice (scoreR x r n e : EReal) (scoreR x r n f : EReal) with hm | hm <;> rw [hm] <;> exact two_way _ _ _

theorem w1_at (n : Fin 1024) (e f : Fin 32) (he : (i0 (ix2 n 0)).toNat = e.val) (hf : (i1 (ix2 n 0)).toNat = f.val) :
    w1 x r i0 i1 (ix2 n 0) = (portion (scoreR x r n f) (scoreR x r n e) : EReal) := by
  pointwise [w1, ex0, ex1]
  rw [pick_at x r i0 n e he, pick_at x r i1 n f hf, score_real x r hx hr, score_real x r hx hr, add_comm]
  rcases max_choice (scoreR x r n e : EReal) (scoreR x r n f : EReal) with hm | hm <;> rw [hm] <;> exact two_way _ _ _

/-- The weight a token gives to expert `q`, its two choices being `e` and `f`. -/
def weight (n : Fin 1024) (e f q : Fin 32) : ℝ :=
  (if e = q then portion (scoreR x r n e) (scoreR x r n f) else 0) + (if f = q then portion (scoreR x r n f) (scoreR x r n e) else 0)

omit hx hr in
theorem weight_nonneg (n : Fin 1024) (e f q : Fin 32) : 0 ≤ weight x r n e f q := by
  unfold weight
  refine add_nonneg ?_ ?_ <;> split <;> first | exact portion_nonneg _ _ | exact le_refl _

omit hx hr in
theorem gate_at (w : FVec Ideal S1024x1 .f32) (n : Fin 1024) (e q : Fin 32) (h : (i (ix2 n 0)).toNat = e.val) (v : ℝ)
    (hw : w (ix2 n 0) = (v : EReal)) : gate i w (BitVec.ofNat 32 q.val) (ix2 n 0) = ((if e = q then v else 0 : ℝ) : EReal) := by
  pointwise [gate]
  rw [select_word, hw]
  by_cases hq : e = q
  · rw [if_pos ((word_eq_iff _ _ q.isLt).2 (by rw [h, hq])).symm, if_pos hq]
  · rw [if_neg fun hw => hq (Fin.ext (h.symm.trans ((word_eq_iff _ _ q.isLt).1 hw.symm).symm)), if_neg hq]; rfl

/-- The scaled tokens. -/
theorem wx_at (n : Fin 1024) (k : Fin 512) (e f q : Fin 32) (he : (i0 (ix2 n 0)).toNat = e.val) (hf : (i1 (ix2 n 0)).toNat = f.val) :
    wx x r i0 i1 (BitVec.ofNat 32 q.val) (ix2 n k) = (weight x r n e f q : EReal) * x (ix2 n k) := by
  pointwise [wx, xv]
  rw [gate_at i0 _ n e q he _ (w0_at x r i0 i1 hx hr n e f he hf), gate_at i1 _ n f q hf _ (w1_at x r i0 i1 hx hr n e f he hf),
    ← EReal.coe_add]
  rfl

end

/-- What a piece adds at an index of its columns: the scaled tokens times the expert's column. -/
theorem acc_at (a : Fin 3) (p : Fin 2) (y : FVec Ideal S1024x512 .bf16) (w : Vec Ideal (S3 (pw a p)) .bf16) (o : Vec Ideal (SO (pw a p)) .f32)
    (n : Fin 1024) (l : Fin (pw a p)) :
    acc a p y w o (ix2 n l) = o (ix2 n l) + ∑ k : Fin 512, y (ix2 n k) * w (ix3 0 k l) := by
  unfold acc
  rw [ix2_eq_valueIdx, shapeCast_self, addf_apply]
  refine congrArg (o (ValueIdx.ix2 n l) + ·) ?_
  refine (Ideal.matmul_plain_apply none _ _ _ n l).trans ?_
  rw [constant_apply, show (FloatOps.ofBits .f32 0x00000000#32 : Ideal .f32) = 0 by simp [Ideal.ofBits, Ideal.ieee], zero_add]
  refine Finset.sum_congr rfl fun k _ => ?_
  rw [ix2_eq_valueIdx, ix3_eq_valueIdx, ValueIdx.shapeCast_1ab_ab_apply]

end Cert.Moe
end
-- ==== Proof.Output.lean ====
/- What the output of a device holds once every product has been added: every expert's product at the weight the token gives it. -/
module

public import proofs.«01_k».proof.Proof.Launch
public import proofs.«01_k».proof.Proof.Tokens

@[expose] public section

noncomputable section

namespace Cert.Moe

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)
variable (Y : Fin 8 → Fin 4 → FVec Ideal S1024x512 .bf16)

/-- The product of the scaled tokens with local expert `j` of the device across mask `g`, at a token and a column. -/
def term (n col : Fin 1024) (g : Fin 8) (j : Fin 4) : EReal :=
  ∑ k : Fin 512, Y g j (ix2 n k) * wAt (wst m ρ (peer g c)) j k col.val

/-- Piece `p` of array `a` covers a column. -/
def Covers (a : Fin 3) (p : Fin 2) (col : ℕ) : Prop := pc a p ≤ col ∧ col < pc a p + pw a p

instance (a : Fin 3) (p : Fin 2) (col : ℕ) : Decidable (Covers a p col) := inferInstanceAs (Decidable (_ ∧ _))

/-- What piece `p` of slot `g` of array `a` adds at a token and a column. -/
def added (n col : Fin 1024) (t : Fin 3 × Fin 8 × Fin 2) : EReal :=
  if Covers t.1 t.2.2 col.val then term m ρ c Y n col t.2.1 (pe t.1 t.2.2) else 0

/-- The output's element at a token and a column. -/
def outEl (o : (cc0_stg4_0 : Ref sig .tc).ty.Contents (Elt Ideal)) (n col : Fin 1024) : EReal := o (ix2 n col)

/-- The output after a piece is added, at a place of the piece's columns and at any other place. -/
theorem addPiece_in (a : Fin 3) (g : Fin 8) (p : Fin 2) (o : (cc0_stg4_0 : Ref sig .tc).ty.Contents (Elt Ideal)) (y : (SO (pw a p)).Idx) :
    addPiece m ρ c Y a g p o ((rO a p).emb y)
      = acc a p (Y g (pe a p)) (piece a p (wst m ρ (peer g c))) (fun z => o ((rO a p).emb z)) y := by
  unfold addPiece
  rw [show (Memref.whole cc0_stg4_0 : Memref sig .tc _ _ _).view.readAt (Elt Ideal) (rO a p).toLoadRect o = fun z => o ((rO a p).emb z) from rfl]
  have h := View.read_slice_write_emb (v := View.whole cc0_stg4_0) (Val := Elt Ideal) (rO a p) o
    (acc a p (Y g (pe a p)) (piece a p (wst m ρ (peer g c))) (fun z => o ((rO a p).emb z))) (Finset.mem_univ y)
  rw [View.read_whole] at h
  exact h
theorem addPiece_out (a : Fin 3) (g : Fin 8) (p : Fin 2) (o : (cc0_stg4_0 : Ref sig .tc).ty.Contents (Elt Ideal)) (i : S1024x1024.Idx)
    (h : i ∉ (Finset.univ : Finset (SO (pw a p)).Idx).map (rO a p).emb) : addPiece m ρ c Y a g p o i = o i := by
  unfold addPiece
  have h := View.read_slice_write_of_not_mem (v := View.whole cc0_stg4_0) (Val := Elt Ideal) (rO a p) o
    (acc a p (Y g (pe a p)) (piece a p (wst m ρ (peer g c))) ((Memref.whole cc0_stg4_0 : Memref sig .tc _ _ _).view.readAt (Elt Ideal) (rO a p).toLoadRect o)) _ h
  rw [View.read_whole, View.read_whole] at h
  exact h

/-- The output after a piece is added, at a token and a column. -/
theorem addPiece_at (a : Fin 3) (g : Fin 8) (p : Fin 2) (o : (cc0_stg4_0 : Ref sig .tc).ty.Contents (Elt Ideal)) (n col : Fin 1024) :
    outEl (addPiece m ρ c Y a g p o) n col = outEl o n col + added m ρ c Y n col (a, g, p) := by
  unfold added outEl
  by_cases h : Covers a p col.val
  · rw [if_pos h]
    have hl : col.val - pc a p < pw a p := by have h1 := h.1; have h2 := h.2; omega
    have e : (rO a p).emb (ix2 n ⟨col.val - pc a p, hl⟩) = ix2 n col := by
      funext b
      have h1 := h.1
      fin_cases b
      · exact Fin.ext (by show 0 + 1 * n.val = n.val; omega)
      · exact Fin.ext (by show pc a p + 1 * (col.val - pc a p) = col.val; omega)
    have hw := addPiece_in m ρ c Y a g p o (ix2 n ⟨col.val - pc a p, hl⟩)
    rw [e] at hw
    refine hw.trans ?_
    refine (acc_at a p _ _ _ n ⟨col.val - pc a p, hl⟩).trans ?_
    refine congrArg₂ (fun u v : EReal => u + v) (congrArg o e) (Finset.sum_congr rfl fun k _ => ?_)
    refine congrArg (fun u : EReal => Y g (pe a p) (ix2 n k) * u) ?_
    refine congrArg (wAt (wst m ρ (peer g c)) (pe a p) k) ?_
    have h1 := h.1
    show pc a p + (col.val - pc a p) = col.val
    omega
  · rw [if_neg h, add_zero]
    refine addPiece_out m ρ c Y a g p o _ ?_
    intro hy
    obtain ⟨z, -, hz⟩ := Finset.mem_map.mp hy
    have e : pc a p + 1 * (z 1).val = col.val := congrArg Fin.val (congrFun hz 1)
    have hz1 : (z 1).val < pw a p := (z 1).isLt
    exact h ⟨by omega, by omega⟩

/-- The product a step adds. -/
def Step.triple : Step → Option (Fin 3 × Fin 8 × Fin 2)
  | .comp a g p => some (a, g, p)
  | _ => none

/-- The output after a list of steps, at a token and a column. -/
theorem outs_at (n col : Fin 1024) : ∀ (l : List Step) (o : (cc0_stg4_0 : Ref sig .tc).ty.Contents (Elt Ideal)),
    outEl (outs m ρ c Y l o) n col
      = outEl o n col + ((l.filterMap Step.triple).map (added m ρ c Y n col)).sum
  | [], o => (add_zero _).symm
  | .comp a g p :: l, o => by
    refine (outs_at n col l _).trans ?_
    refine (congrArg (· + _) (addPiece_at m ρ c Y a g p o n col)).trans ((add_assoc _ _ _).trans ?_)
    exact congrArg (outEl o n col + ·) (List.sum_cons ..).symm
  | .issue _ _ :: l, o => outs_at n col l o
  | .recv _ _ :: l, o => outs_at n col l o
  | .sent _ _ :: l, o => outs_at n col l o

theorem triples_nodup : (rest.filterMap Step.triple).Nodup := by decide +kernel
theorem triples_all : (rest.filterMap Step.triple).toFinset = Finset.univ := by decide +kernel

/-- A column of every expert lies in exactly one piece. -/
theorem pieces_cover (col : ℕ) (hcol : col < 1024) (f : Fin 4 → EReal) :
    ∑ a : Fin 3, ∑ p : Fin 2, (if Covers a p col then f (pe a p) else 0) = ∑ j, f j := by
  simp only [Fin.sum_univ_succ, Fin.sum_univ_zero, Covers]
  simp [pc, pw, pe]
  rw [if_pos hcol, if_pos hcol]
  by_cases h1 : col < 384
  · rw [if_pos h1, if_neg (by omega), if_pos (by omega), if_neg (by omega)]; simp [add_assoc]
  · by_cases h2 : col < 768
    · rw [if_neg h1, if_pos (by omega), if_pos h2, if_neg (by omega)]; simp [add_assoc]
    · rw [if_neg h1, if_pos (by omega), if_neg h2, if_pos (by omega)]; simp [add_assoc]

/-- All products added: the sum over the devices across all masks and their four experts. -/
theorem total_at (n col : Fin 1024) : outEl (outs m ρ c Y rest (k0_pay19 (F := Ideal))) n col
    = ∑ g : Fin 8, ∑ j : Fin 4, term m ρ c Y n col g j := by
  rw [outs_at, ← List.sum_toFinset _ triples_nodup, triples_all]
  have hz : outEl (k0_pay19 (F := Ideal)) n col = 0 := by pointwise [outEl, k0_pay19]
  refine (congrArg (· + _) hz).trans ?_
  rw [zero_add, Fintype.sum_prod_type, Finset.sum_congr rfl fun a _ => Fintype.sum_prod_type _, Finset.sum_comm]
  exact Finset.sum_congr rfl fun g _ => pieces_cover col.val col.isLt (term m ρ c Y n col g)

end Cert.Moe
end
-- ==== Proof.Device.lean ====
/- A device's result from its argument arrays: each token's two chosen experts at their two weights. -/
module

public import proofs.«01_k».proof.Proof.Output

@[expose] public section

noncomputable section

namespace Cert.Moe

open Idealize.ShloMosaic Idealize.ShloMosaic.TcCoe
open Cert.KernelIdeal Cert.KernelIdeal.Gen

section
variable {F : FTy → Type} [FloatOps F]
variable (m : (ℓ : Loc nD τ sig) → Buf (Elt F) ℓ) (ρ : Dev nD → PrngReg) (c : Dev nD)

/-! ## What is staged is the argument arrays, and the result array is what the body leaves -/

theorem xst_eq : xst m ρ c = m ((c.tc : Thread nD τ).loc main_arg0) :=
  Memref.read_access_unit_zero (Elt F) main_arg0 (funext fun a => by fin_cases a <;> rfl) _ _
theorem rst_eq : rst m ρ c = m ((c.tc : Thread nD τ).loc main_arg1) :=
  Memref.read_access_unit_zero (Elt F) main_arg1 (funext fun a => by fin_cases a <;> rfl) _ _
theorem ist_eq : ist m ρ c = m ((c.tc : Thread nD τ).loc main_arg2) :=
  Memref.read_access_unit_zero (Elt F) main_arg2 (funext fun a => by fin_cases a <;> rfl) _ _
theorem wst_eq : wst m ρ c = m ((c.tc : Thread nD τ).loc main_arg3) :=
  Memref.read_access_unit_zero (Elt F) main_arg3 (funext fun a => by fin_cases a <;> rfl) _ _

theorem result_eq : finalA m ρ c (4 : Fin 5) = outAt m ρ c := by
  have h : (win0_4.blk (0 : Fin 1)).view.read (Elt F) (finalA m ρ c (4 : Fin 5)) = outAt m ρ c := by
    unfold finalA
    rw [show cfg0.N = ((0 : Fin 1) : Fin cfg0.N).val + 1 from rfl, (dats m ρ 0 c).arrAt_succ (4 : Fin 5) (0 : Fin 1),
      show (cfg0.win (4 : Fin 5)).flush (0 : Fin 1) = true from by decide, if_pos rfl]
    exact View.read_write_univ _ _
  exact (Memref.read_access_unit_zero (Elt F) main_v1 (funext fun a => by fin_cases a <;> rfl) _ _).symm.trans h

/-- An index column read at a token. -/
theorem icol_at (I : (cc0_stg2_0 : Ref sig .tc).ty.Contents (Elt F)) (n : Fin 1024) : ∀ j : Fin 2,
    icol j I (ix2 n 0) = I (ix2 n j)
  | 0 => congrArg I (funext fun b => by
      fin_cases b
      · exact Fin.ext (by show 0 + 1 * n.val = n.val; omega)
      · rfl)
  | 1 => congrArg I (funext fun b => by
      fin_cases b
      · exact Fin.ext (by show 0 + 1 * n.val = n.val; omega)
      · rfl)
end

/-- The number of local expert `j` of the device across mask `g`. -/
def en (c : Dev nD) (g : Fin 8) (j : Fin 4) : Fin 32 :=
  ⟨(peer g c).val * 4 + j.val, by have h : (peer g c).val < 8 := (peer g c).isLt; have := j.isLt; omega⟩

theorem egw_eq : ∀ (c : Dev nD) (g : Fin 8) (j : Fin 4), egw c g j = BitVec.ofNat 32 (en c g j).val := by decide +kernel

theorem en_bijective : ∀ c : Dev nD, Function.Bijective (fun t : Fin 8 × Fin 4 => en c t.1 t.2) := by decide +kernel

/-- The masks and the local experts run through all experts. -/
theorem sum_experts (c : Dev nD) (f : Fin 32 → EReal) : ∑ g : Fin 8, ∑ j : Fin 4, f (en c g j) = ∑ q, f q := by
  rw [← Fintype.sum_prod_type' (fun g j => f (en c g j))]
  exact (Equiv.ofBijective _ (en_bijective c)).sum_comp f

variable (m : (ℓ : Loc nD τ sig) → Buf (Elt Ideal) ℓ) (ρ : Dev nD → PrngReg) (c : Dev nD)

/-- A device's result at a token and a column. -/
theorem outAt_at (x : FVec Ideal S1024x512 .bf16) (r : FVec Ideal S512x32 .bf16) (I : IVec S1024x2 32)
    (W : Fin 32 → Fin 512 → Fin 1024 → EReal) (hx : xst m ρ c = x) (hr : rst m ρ c = r) (hI : ist m ρ c = I)
    (hW : ∀ (d : Dev nD) (j : Fin 4) (k : Fin 512) (col : Fin 1024) (h : d.val * 4 + j.val < 32), wAt (wst m ρ d) j k col.val = W ⟨d.val * 4 + j.val, h⟩ k col)
    (rx : ∀ j, IsReal (x j)) (rr : ∀ j, IsReal (r j)) (n col : Fin 1024) (e f : Fin 32)
    (he : (I (ix2 n 0)).toNat = e.val) (hf : (I (ix2 n 1)).toNat = f.val) :
    outEl (outAt m ρ c) n col = (portion (scoreR x r n e) (scoreR x r n f) : EReal) * yield x (fun k => W e k col) n
      + (portion (scoreR x r n f) (scoreR x r n e) : EReal) * yield x (fun k => W f k col) n := by
  unfold outAt outOf
  rw [total_at, hx, hr, hI]
  rw [← routed_sum _ _ (portion_nonneg _ _) (portion_nonneg _ _) e f fun q => yield x (fun k => W q k col) n, ← sum_experts c]
  refine Finset.sum_congr rfl fun g _ => Finset.sum_congr rfl fun j _ => ?_
  rw [term, egw_eq]
  refine Eq.trans (Finset.sum_congr rfl fun k _ => ?_) (scaled_sum (weight x r n e f (en c g j)) (weight_nonneg x r n e f _) (fun k => x (ix2 n k)) (fun k => W (en c g j) k col))
  rw [wx_at x r _ _ rx rr n k e f (en c g j) ((congrArg BitVec.toNat (icol_at I n 0)).trans he) ((congrArg BitVec.toNat (icol_at I n 1)).trans hf), hW]
  rfl

end Cert.Moe
end
-- ==== Proof.Gathers.lean ====
/- The reference's two gathers and its handling of an index, read at an index: for an index in 0..31 the wrap of
   negative indices and the in-range mask do nothing, and the gather reads the element or the matrix named. -/
module

public import proofs.«01_k».proof.Proof.Gen.ReferenceIdeal
public import proofs.«01_k».proof.Proof.Tokens

@[expose] public section

noncomputable section

namespace Cert.Moe.Ref

open Idealize.ShloMosaic
open Cert.ReferenceIdeal Cert.ReferenceIdeal.Gen
open Cert.ReferenceIdeal.Facts Cert.ReferenceIdeal.Facts₀

theorem fin_two (a : Fin 2) : a = 0 ∨ a = 1 := by omega
theorem fin_three (a : Fin 3) : a = 0 ∨ a = 1 ∨ a = 2 := by omega

/-- The array a gather reads for a token: the element of its row that the token's index names. -/
theorem gather_column (P : FVec Ideal S8192x32 .f32) (J : IVec S8192x1x1 32) (n : Fin 8192) (e : Fin 32)
    (h : (J (ix3 n 0 0)).toInt.toNat = e.val) :
    Host.gather gather_S8192x32_S8192x1x1_S8192x1_n_1_0_0_1_2_11 P J (ix2 n 0) = P (ix2 n e) := by
  unfold Host.gather
  refine congrArg P (funext fun a => Fin.ext ?_)
  show GatherDims.start _ _ _ a + GatherDims.batchCoord _ _ a + GatherDims.offCoord _ _ a = _
  rw [GatherDims.offCoord_eq_zero _ _ _ (fun h => by
    have h := (GatherDims.mem_sKept _ _).mp h
    match a with
    | ⟨0, _⟩ => exact h.2 (List.mem_singleton.mpr rfl)
    | ⟨1, _⟩ => exact h.1 (List.mem_singleton.mpr rfl)), Nat.add_zero]
  obtain rfl | rfl : a = (0 : Fin 2) ∨ a = (1 : Fin 2) := fin_two a
  · rw [GatherDims.start_batching _ _ _ _ (List.mem_singleton.mpr rfl), Nat.zero_add]
    rfl
  · rw [GatherDims.batchCoord_eq_zero _ _ _ (by decide), Nat.add_zero]
    have hs : ∀ c, gather_S8192x32_S8192x1x1_S8192x1_n_1_0_0_1_2_11.siIdx (ix2 n 0) c = ix3 n 0 0 := by
      intro c
      funext b
      match b with
      | ⟨0, _⟩ => rfl
      | ⟨1, _⟩ => rfl
      | ⟨2, _⟩ => exact Subsingleton.elim (α := Fin 1) _ _
    unfold GatherDims.start
    rw [dif_pos (show (1 : Fin 2) ∈ GatherDims.startIndexMap gather_S8192x32_S8192x1x1_S8192x1_n_1_0_0_1_2_11 from List.mem_singleton.mpr rfl), hs, h]
    exact Nat.min_eq_left (by have := e.isLt; show e.val ≤ 32 - 1; omega)

/-- The array a gather reads for a token: the whole matrix that the token's index names. -/
theorem gather_matrix (W : FVec Ideal S32x512x1024 .f32) (J : IVec S8192x1 32) (n : Fin 8192) (k : Fin 512) (col : Fin 1024) (e : Fin 32)
    (h : (J (ix2 n 0)).toInt.toNat = e.val) :
    Host.gather gather_S32x512x1024_S8192x1_S8192x512x1024_12_0_n_n_0_1_15121024 W J (ix3 n k col) = W (ix3 e k col) := by
  unfold Host.gather
  refine congrArg W (funext fun a => Fin.ext ?_)
  show GatherDims.start _ _ _ a + GatherDims.batchCoord _ _ a + GatherDims.offCoord _ _ a = _
  rw [GatherDims.batchCoord_eq_zero _ _ _ List.not_mem_nil, Nat.add_zero]
  obtain rfl | rfl | rfl : a = (0 : Fin 3) ∨ a = (1 : Fin 3) ∨ a = (2 : Fin 3) := fin_three a
  · rw [GatherDims.offCoord_eq_zero _ _ _ (fun h => ((GatherDims.mem_sKept _ _).mp h).1 (List.mem_singleton.mpr rfl)), Nat.add_zero]
    have hs : ∀ c, gather_S32x512x1024_S8192x1_S8192x512x1024_12_0_n_n_0_1_15121024.siIdx (ix3 n k col) c = ix2 n 0 := by
      intro c
      funext b
      match b with
      | ⟨0, _⟩ => rfl
      | ⟨1, _⟩ => exact Subsingleton.elim (α := Fin 1) _ _
    unfold GatherDims.start
    rw [dif_pos (show (0 : Fin 3) ∈ GatherDims.startIndexMap gather_S32x512x1024_S8192x1_S8192x512x1024_12_0_n_n_0_1_15121024 from List.mem_singleton.mpr rfl), hs, h]
    exact Nat.min_eq_left (by have := e.isLt; show e.val ≤ 32 - 1; omega)
  · unfold GatherDims.start
    rw [dif_neg (by decide), Nat.zero_add]
    rfl
  · unfold GatherDims.start
    rw [dif_neg (by decide), Nat.zero_add]
    rfl

/-- A small word read signed. -/
theorem small_toInt (b : BitVec 32) (h : b.toNat < 32) : b.toInt = b.toNat := by
  rw [BitVec.toInt_eq_toNat_cond, if_pos (by omega)]

/-- Wrapping a negative index leaves an index in range as it is. -/
theorem wrap_small (b : BitVec 32) (h : b.toNat < 32) : Scalar.select (IntOp.cmpi .slt b 0#32) (IntOp.addi b 32#32) b = b := by
  refine if_neg fun hc => ?_
  have := IntOp.cmpi_slt.1 hc
  rw [small_toInt b h] at this
  have e0 : (0#32 : BitVec 32).toInt = 0 := by decide
  omega

/-- An index in range passes the two comparisons of the mask. -/
theorem in_range (b : BitVec 32) (h : b.toNat < 32) : IntOp.andi (IntOp.cmpi .sge b 0#32) (IntOp.cmpi .sle b 31#32) = 1#1 := by
  have e0 : (0#32 : BitVec 32).toInt = 0 := by decide
  have e1 : (31#32 : BitVec 32).toInt = 31 := by decide
  exact IntOp.andi_eq_one.2 ⟨IntOp.cmpi_sge.2 (by rw [small_toInt b h]; omega), IntOp.cmpi_sle.2 (by rw [small_toInt b h]; omega)⟩

end Cert.Moe.Ref
end
-- ==== Proof.Reference.lean ====
/- What the reference computes, read at an index: each token's two chosen experts at their two weights. -/
module

public import proofs.«01_k».proof.Proof.Gen.ReferenceIdeal.Run
public import proofs.«01_k».proof.Proof.Gathers

@[expose] public section

noncomputable section

namespace Cert.Moe.Ref

open Idealize.ShloMosaic Idealize.ShloMosaic.TcCoe
open Cert.ReferenceIdeal Cert.ReferenceIdeal.Gen

variable (x : FVec Ideal S8192x512 .bf16) (r : FVec Ideal S512x32 .bf16) (I : IVec S8192x2 32) (W : FVec Ideal S32x512x1024 .bf16)

/-! ## The parts of the reference's result -/

/-- The router's scores of all tokens. -/
def logits : FVec Ideal S8192x32 .f32 :=
  Host.dotGeneral dot_S8192x512_S512x32_S8192x32_1_0_0_1_n_n none (extf .f32 x bitsLt_bf16_f32) (extf .f32 r bitsLt_bf16_f32)
/-- Each token's largest score. -/
def top : FVec Ideal S8192 .f32 :=
  Host.reduce FloatOps.maximumf (logits x r) (constant S_ .f32 0xFF800000#32) reducesTo_S8192x32_S8192_d1 h_S_
/-- The exponentials of the scores less the largest. -/
def expo : FVec Ideal S8192x32 .f32 :=
  Host.exp (subf (logits x r) (broadcastInDim S8192x32 ![0, 1] bcast_S8192x1_S8192x32_0_1 (broadcastInDim S8192x1 ![0] bcast_S8192_S8192x1_0 (top x r))))
/-- The softmax over the experts. -/
def probs : FVec Ideal S8192x32 .f32 :=
  Host.divf (expo x r) (broadcastInDim S8192x32 ![0, 1] bcast_S8192x1_S8192x32_0_1 (broadcastInDim S8192x1 ![0] bcast_S8192_S8192x1_0
    (Host.reduceAdd (expo x r) (constant S_ .f32 0x00000000#32) reducesTo_S8192x32_S8192_d1 h_S_)))
/-- The two columns of the routing indices. -/
def column : Fin 2 → IVec S8192x1 32
  | 0 => extractStridedSlice S8192x1 ![0, 0] I slices_S8192x2_S8192x1_0_0
  | 1 => extractStridedSlice S8192x1 ![0, 1] I slices_S8192x2_S8192x1_0_1
/-- An index column with negative indices wrapped, as the gathers of the softmax read it. -/
def wrapped (j : IVec S8192x1 32) : IVec S8192x1x1 32 :=
  shapeCast _ (select (cmpi .slt j (broadcastInDim S8192x1 ![] bcast_S_S8192x1 (constantI S_ 32 0#32)))
    (addi j (broadcastInDim S8192x1 ![] bcast_S_S8192x1 (constantI S_ 32 32#32))) j) shapeCasts_S8192x1_S8192x1x1
/-- The softmax's element each token's index names. -/
def took (j : IVec S8192x1 32) : FVec Ideal S8192x1 .f32 :=
  select (Host.reduce IntOp.andi (andi (cmpi .sge (wrapped j) (broadcastInDim S8192x1x1 ![] bcast_S_S8192x1x1 (constantI S_ 32 0#32)))
      (cmpi .sle (wrapped j) (broadcastInDim S8192x1x1 ![0, 1, 2] bcast_S1x1x1_S8192x1x1_0_1_2 (broadcastInDim S1x1x1 ![2] bcast_S1_S1x1x1_2 (constantI S1 32 31#32)))))
      (constantI S_ 1 1#1) reducesTo_S8192x1x1_S8192x1_d2 h_S_)
    (Host.gather gather_S8192x32_S8192x1x1_S8192x1_n_1_0_0_1_2_11 (probs x r) (wrapped j))
    (broadcastInDim S8192x1 ![] bcast_S_S8192x1 (constant S_ .f32 0x7FC00000#32))
/-- The expert matrix each token's index names. -/
def experts (j : IVec S8192 32) : FVec Ideal S8192x512x1024 .f32 :=
  Host.gather gather_S32x512x1024_S8192x1_S8192x512x1024_12_0_n_n_0_1_15121024 (extf .f32 W bitsLt_bf16_f32)
    (broadcastInDim S8192x1 ![0] bcast_S8192_S8192x1_0
      (select (cmpi .slt j (broadcastInDim S8192 ![] bcast_S_S8192 (constantI S_ 32 0#32)))
        (addi j (broadcastInDim S8192 ![] bcast_S_S8192 (constantI S_ 32 32#32))) j))
/-- One chosen expert's part of the result. -/
def part (q : FVec Ideal S8192x1 .f32) (j : IVec S8192x1 32) : FVec Ideal S8192x1024 .f32 :=
  mulf (broadcastInDim S8192x1024 ![0, 1] bcast_S8192x1_S8192x1024_0_1
      (Host.divf q (addf (took x r (column I 0)) (took x r (column I 1)))))
    (Host.dotGeneral dot_S8192x512_S8192x512x1024_S8192x1024_1_1_n_2_0_0 none (extf .f32 x bitsLt_bf16_f32)
      (experts W (shapeCast _ j shapeCasts_S8192x1_S8192)))
/-- The result. -/
def result : FVec Ideal S8192x1024 .f32 :=
  addf (part x r I W (took x r (column I 0)) (column I 0)) (part x r I W (took x r (column I 1)) (column I 1))

/-- The reference's run leaves these parts put together. -/
theorem result_eq (m : (ℓ : Loc nD τ sig) → Buf (Elt Ideal) ℓ) (c : Dev nD) : Cert.ReferenceIdeal.Value.res_out0 m c
    = result (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.Value.res_out0 Cert.ReferenceIdeal.Value.res_main_v44
  rfl

/-! ## The parts read at an index -/

theorem logits_at (n : Fin 8192) (e : Fin 32) : logits x r (ix2 n e) = score x r n e := by
  pointwise [logits, score]

theorem top_at (n : Fin 8192) : top x r (ix1 n) = Finset.univ.fold max ⊥ (fun e => score x r n e) := by
  pointwise [top]
  rw [show Ideal.ofBits .f32 0xFF800000#32 = (⊥ : EReal) by simp [Ideal.ofBits, Ideal.ieee]]
  simp only [logits_at]

theorem expo_at (n : Fin 8192) (e : Fin 32) : expo x r (ix2 n e) = Ideal.exp (score x r n e - top x r (ix1 n)) := by
  pointwise [expo]
  rw [logits_at]

theorem probs_at (n : Fin 8192) (e : Fin 32) : probs x r (ix2 n e)
    = Ideal.div (Ideal.exp (score x r n e - top x r (ix1 n))) (0 + ∑ q : Fin 32, Ideal.exp (score x r n q - top x r (ix1 n))) := by
  pointwise [probs]
  simp only [expo_at]

theorem column_at (n : Fin 8192) : ∀ k : Fin 2, column I k (ix2 n 0) = I (ix2 n k)
  | 0 => by pointwise [column]
  | 1 => by pointwise [column]

theorem wrapped_at (j : IVec S8192x1 32) (n : Fin 8192) (h : (j (ix2 n 0)).toNat < 32) : wrapped j (ix3 n 0 0) = j (ix2 n 0) := by
  pointwise [wrapped]
  exact wrap_small _ h

theorem took_at (j : IVec S8192x1 32) (n : Fin 8192) (e : Fin 32) (h : (j (ix2 n 0)).toNat = e.val) :
    took x r j (ix2 n 0) = probs x r (ix2 n e) := by
  have hs : (j (ix2 n 0)).toNat < 32 := h ▸ e.isLt
  pointwise [took]
  have one : ∀ q : Fin 1, IntOp.andi (IntOp.cmpi .sge (wrapped j (ix3 n 0 q)) 0#32) (IntOp.cmpi .sle (wrapped j (ix3 n 0 q)) 31#32) = 1#1 := by
    intro q
    obtain rfl : q = 0 := Subsingleton.elim _ _
    rw [wrapped_at j n hs]
    exact in_range _ hs
  simp only [one, Finset.univ_unique, Finset.fold_singleton]
  rw [gather_column (e := e)]
  · rfl
  · rw [wrapped_at j n hs, small_toInt _ hs, Int.toNat_natCast, h]

theorem experts_at (j : IVec S8192 32) (n : Fin 8192) (k : Fin 512) (col : Fin 1024) (e : Fin 32) (h : (j (ix1 n)).toNat = e.val) :
    experts W j (ix3 n k col) = W (ix3 e k col) := by
  unfold experts
  rw [gather_matrix (e := e)]
  · pointwise
  · pointwise
    rw [wrap_small _ (h ▸ e.isLt), small_toInt _ (h ▸ e.isLt), Int.toNat_natCast, h]

theorem part_at (q : FVec Ideal S8192x1 .f32) (j : IVec S8192x1 32) (n : Fin 8192) (col : Fin 1024) (e : Fin 32) (h : (j (ix2 n 0)).toNat = e.val) :
    part x r I W q j (ix2 n col)
      = Ideal.div (q (ix2 n 0)) (took x r (column I 0) (ix2 n 0) + took x r (column I 1) (ix2 n 0)) * yield x (fun k => W (ix3 e k col)) n := by
  pointwise [part]
  have at_ : (shapeCast S8192 j shapeCasts_S8192x1_S8192 : IVec S8192 32) (ix1 n) = j (ix2 n 0) := by pointwise
  simp only [experts_at W _ n _ col e (at_ ▸ h)]
  rfl

/-- Where the tokens and the router are real numbers and a token's two indices name experts, the token's row of the result is
the two experts' products at the two experts' portions. -/
theorem result_at (rx : ∀ j, IsReal (x j)) (rr : ∀ j, IsReal (r j)) (n : Fin 8192) (col : Fin 1024) (e f : Fin 32)
    (he : (I (ix2 n 0)).toNat = e.val) (hf : (I (ix2 n 1)).toNat = f.val) :
    result x r I W (ix2 n col)
      = (portion (scoreR x r n e) (scoreR x r n f) : EReal) * yield x (fun k => W (ix3 e k col)) n
        + (portion (scoreR x r n f) (scoreR x r n e) : EReal) * yield x (fun k => W (ix3 f k col)) n := by
  have hS : ∀ q : Fin 32, score x r n q = ((scoreR x r n q : ℝ) : EReal) := fun q => score_real x r rx rr n q
  have hM : IsReal (top x r (ix1 n)) := by
    rw [top_at]
    exact fold_max_real _ (fun q => ⟨_, hS q⟩) _ ⟨e, Finset.mem_univ e⟩
  have ce : (column I 0 (ix2 n 0)).toNat = e.val := (congrArg BitVec.toNat (column_at I n 0)).trans he
  have cf : (column I 1 (ix2 n 0)).toNat = f.val := (congrArg BitVec.toNat (column_at I n 1)).trans hf
  pointwise [result]
  rw [part_at x r I W _ _ n col e ce, part_at x r I W _ _ n col f cf, took_at x r _ n e ce, took_at x r _ n f cf, probs_at, probs_at,
    renormalised _ _ hS _ hM e f]
  rw [add_comm (Ideal.div (Ideal.exp (score x r n e - _)) _), renormalised _ _ hS _ hM f e]

end Cert.Moe.Ref
end
-- ==== Proof.Equation.lean ====
/- The kernel's result on each device is that device's rows of the reference's result. -/
module

public import proofs.«01_k».proof.Defs
public import proofs.«01_k».proof.Proof.Given
public import proofs.«01_k».proof.Proof.Frames
public import proofs.«01_k».proof.Proof.Device
public import proofs.«01_k».proof.Proof.Reference
public import Idealize.ShloMosaic.Lib.Layout

@[expose] public section

noncomputable section

namespace Cert.Moe

open Idealize.ShloMosaic Idealize.ShloMosaic.TcCoe
open Idealize.SL.Sem

/-! ## The rows of the whole arrays, device by device -/

/-- Device `c`'s row `n` among all rows. -/
def rowOf (c : Fin 8) (n : Fin 1024) : Fin 8192 := ⟨c.val * 1024 + n.val, by have := c.isLt; have := n.isLt; omega⟩

/-- Every row is a row of some device. -/
theorem row_split (N : Fin 8192) : ∃ c n, rowOf c n = N :=
  ⟨⟨N.val / 1024, by have := N.isLt; omega⟩, ⟨N.val % 1024, by omega⟩, Fin.ext (by show N.val / 1024 * 1024 + N.val % 1024 = N.val; omega)⟩

/-- A device's block of rows, read at an index, is the whole array at the device's row. -/
theorem block_rows {α : Type} {q : ℕ} (h : Layout.Tiles ⟨2, ![1024, q]⟩ ⟨2, ![8192, q]⟩ 0 8) (c : Fin 8)
    (v : Shape.Idx ⟨2, ![8192, q]⟩ → α) (n : Fin 1024) (l : Fin q) :
    Layout.block ⟨2, ![1024, q]⟩ ⟨2, ![8192, q]⟩ 0 8 c v h (ix2 n l) = v (ix2 (rowOf c n) l) :=
  congrArg v (funext fun b => by fin_cases b <;> rfl)

/-- A device's block of experts, read at an index, is the whole array at the device's expert. -/
theorem block_experts {α : Type} (h : Layout.Tiles ⟨3, ![4, 512, 1024]⟩ ⟨3, ![32, 512, 1024]⟩ 0 8) (c : Fin 8)
    (v : Shape.Idx ⟨3, ![32, 512, 1024]⟩ → α) (j : Fin 4) (k : Fin 512) (l : Fin 1024) (hj : c.val * 4 + j.val < 32) :
    Layout.block ⟨3, ![4, 512, 1024]⟩ ⟨3, ![32, 512, 1024]⟩ 0 8 c v h (ix3 j k l) = v (ix3 ⟨c.val * 4 + j.val, hj⟩ k l) :=
  congrArg v (funext fun b => by fin_cases b <;> rfl)

/-- What holds of every element of every device's rows holds of every element of the whole array. -/
theorem all_rows {q : ℕ} {p : Shape.Idx ⟨2, ![8192, q]⟩ → Prop} (h : ∀ c n (l : Fin q), p (ix2 (rowOf c n) l)) (j) : p j := by
  obtain ⟨c, n, hN⟩ := row_split (j 0)
  have e : j = ix2 (rowOf c n) (j 1) := funext fun b => by
    fin_cases b
    · exact hN.symm
    · rfl
  rw [e]
  exact h c n _

/-- A token's scores depend on its row alone. -/
theorem scoreR_row {x : FVec Ideal ⟨2, ![1024, 512]⟩ .bf16} {X : FVec Ideal ⟨2, ![8192, 512]⟩ .bf16} (r : FVec Ideal ⟨2, ![512, 32]⟩ .bf16)
    {n : Fin 1024} {N : Fin 8192} (h : ∀ k, x (ix2 n k) = X (ix2 N k)) (e : Fin 32) : scoreR x r n e = scoreR X r N e := by
  simp only [scoreR, h]

/-- A token's product with an expert depends on its row alone. -/
theorem yield_row {x : FVec Ideal ⟨2, ![1024, 512]⟩ .bf16} {X : FVec Ideal ⟨2, ![8192, 512]⟩ .bf16} (W : Fin 512 → EReal)
    {n : Fin 1024} {N : Fin 8192} (h : ∀ k, x (ix2 n k) = X (ix2 N k)) : yield x W n = yield X W N := by
  simp only [yield, h]

/-! ## The equation -/

attribute [local instance] Cert.Kernel.Gen.facts Cert.KernelIdeal.Gen.facts Cert.ReferenceIdeal.Gen.facts given_facts

open Cert.KernelIdeal Cert.KernelIdeal.Gen in
/-- Where the devices' arrays are the whole arrays' blocks and the precondition holds, device `c`'s result is its rows of the reference's. -/
theorem rows_equal (m : (ℓ : Loc nD τ sig) → Buf (Elt Ideal) ℓ) (ρ : Dev nD → PrngReg)
    (X : FVec Ideal ⟨2, ![8192, 512]⟩ .bf16) (R : FVec Ideal ⟨2, ![512, 32]⟩ .bf16) (I : IVec ⟨2, ![8192, 2]⟩ 32) (W : FVec Ideal ⟨3, ![32, 512, 1024]⟩ .bf16)
    (pre : Cert.Pre_KernelIdeal_routed_KernelIdeal m)
    (hX : ∀ c : Dev nD, m ((c.tc : Thread nD τ).loc main_arg0) = Layout.block ⟨2, ![1024, 512]⟩ ⟨2, ![8192, 512]⟩ 0 8 c X)
    (hR : ∀ c : Dev nD, m ((c.tc : Thread nD τ).loc main_arg1) = R)
    (hI : ∀ c : Dev nD, m ((c.tc : Thread nD τ).loc main_arg2) = Layout.block ⟨2, ![1024, 2]⟩ ⟨2, ![8192, 2]⟩ 0 8 c I)
    (hW : ∀ c : Dev nD, m ((c.tc : Thread nD τ).loc main_arg3) = Layout.block ⟨3, ![4, 512, 1024]⟩ ⟨3, ![32, 512, 1024]⟩ 0 8 c W)
    (c : Dev nD) :
    outAt m ρ c = Layout.block ⟨2, ![1024, 1024]⟩ ⟨2, ![8192, 1024]⟩ 0 8 c (Ref.result X R I W) := by
  have given := fun d => given_of (pre d)
  have real : ∀ j, IsReal (X j) := all_rows fun d n l => by
    have := (given d).1 (ix2 n l)
    rw [hX d] at this
    exact block_rows (by decide) d X n l ▸ this
  have rr : ∀ j, IsReal (R j) := fun j => by
    have := (given c).2.1 j
    rwa [hR c] at this
  have small : ∀ (n : Fin 1024) (k : Fin 2), (I (ix2 (rowOf c n) k)).toNat < 32 := fun n k => by
    have := (given c).2.2 (ix2 n k)
    rw [hI c] at this
    exact block_rows (by decide) c I n k ▸ this
  funext i
  obtain ⟨n, col, rfl⟩ : ∃ n col : Fin 1024, i = ix2 n col := ⟨i 0, i 1, funext fun b => by fin_cases b <;> rfl⟩
  rw [block_rows]
  have row : ∀ k, Layout.block ⟨2, ![1024, 512]⟩ ⟨2, ![8192, 512]⟩ 0 8 c X (by decide) (ix2 n k) = X (ix2 (rowOf c n) k) := block_rows (by decide) c X n
  refine (outAt_at m ρ c (Layout.block ⟨2, ![1024, 512]⟩ ⟨2, ![8192, 512]⟩ 0 8 c X) R (Layout.block ⟨2, ![1024, 2]⟩ ⟨2, ![8192, 2]⟩ 0 8 c I)
    (fun q k l => W (ix3 q k l)) ((xst_eq m ρ c).trans (hX c)) ((rst_eq m ρ c).trans (hR c)) ((ist_eq m ρ c).trans (hI c)) ?_ (fun j => real _) rr n col
    ⟨_, small n 0⟩ ⟨_, small n 1⟩ (congrArg BitVec.toNat (block_rows _ c I n 0)) (congrArg BitVec.toNat (block_rows _ c I n 1))).trans ?_
  · intro d j k l h
    rw [wst_eq, hW d, wAt]
    have hl : (⟨l.val % 1024, Nat.mod_lt _ (by decide)⟩ : Fin 1024) = l := Fin.ext (Nat.mod_eq_of_lt l.isLt)
    rw [hl]
    refine Eq.trans (congrArg _ (funext fun b => ?_)) (block_experts (by decide) d W j k l h)
    fin_cases b <;> rfl
  · rw [scoreR_row R row, scoreR_row R row, yield_row _ row, yield_row _ row]
    exact (Ref.result_at X R I W real rr (rowOf c n) col ⟨_, small n 0⟩ ⟨_, small n 1⟩ rfl rfl).symm

/-- The kernel's and the reference's runs end, the arguments unchanged, each device's result its rows of the reference's. -/
theorem algebraic : Cert.algebraic_KernelIdeal_ReferenceIdeal_pre_routed_KernelIdeal := fun m g m' g' pre h => by
  refine ⟨Cert.ReferenceIdeal.Value.res_out0 m' 0, ?_, ?_⟩
  · refine (θ_run Cert.KernelIdeal.defs _ _).mono (fun r hr c => ⟨?_, args_kept m g hr.1 c⟩) (run_main m g)
    refine ((hr.1 c (4 : Fin 5)).trans (result_eq m g c)).trans ?_
    rw [Ref.result_eq]
    exact rows_equal m g _ _ _ _ pre (fun c => (h c).1) (fun c => (h c).2.1) (fun c => (h c).2.2.1) (fun c => (h c).2.2.2) c
  · exact (θ_run Cert.ReferenceIdeal.defs _ _).mono (fun r hr => hr 0) (Cert.ReferenceIdeal.Value.run m' g')

end Cert.Moe
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Moe.given_facts, Cert.Moe.given_facts_whole,
    Cert.Moe.frame_kernel, Cert.Moe.frame_ideal, fun m ρ _ => Cert.Moe.frame_ideal m ρ trivial,
    Cert.Moe.frame_reference, fun m ρ _ => Cert.Moe.frame_reference m ρ trivial, trivial, Cert.Moe.algebraic⟩

end Cert.Proof

end
